-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S4 : Shape := ⟨1, ![4]⟩
abbrev S1x4 : Shape := ⟨2, ![1, 4]⟩
abbrev S2048x4 : Shape := ⟨2, ![2048, 4]⟩
abbrev S4x512x4 : Shape := ⟨3, ![4, 512, 4]⟩
abbrev S4x4 : Shape := ⟨2, ![4, 4]⟩
abbrev S4x1 : Shape := ⟨2, ![4, 1]⟩

class Facts : Prop where
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  natLt_1_32 : 1 < 32
  reducesTo_S2048x32_S32_d0 : S2048x32.ReducesTo [0] S32
  h_S_ : 0 < S_.numel
  bcast_S4_S1x4_1 : S4.BroadcastsInDim S1x4 (![1] : Fin 1 → Fin S1x4.rank)
  bcast_S_S1x4 : S_.BroadcastsInDim S1x4 (![] : Fin 0 → Fin S1x4.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  shapeCasts_S2048x4_S4x512x4 : S2048x4.ShapeCasts S4x512x4
  reducesTo_S4x512x4_S4x4_d1 : S4x512x4.ReducesTo [1] S4x4
  bcast_S4_S4x1_0 : S4.BroadcastsInDim S4x1 (![0] : Fin 1 → Fin S4x1.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S_S32 : S_.BroadcastsInDim S32 (![] : Fin 0 → Fin S32.rank)
  reducesTo_S32_S_d0 : S32.ReducesTo [0] S_
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_v6 : IVec S32 32) (main_v20 : IVec S2048x4 32) : IVec S_ 1 :=
  let main_v21 : IVec S4x512x4 32 := shapeCast S4x512x4 main_v20 shapeCasts_S2048x4_S4x512x4
  let main_c_2 : IVec S_ 32 := constantI S_ 32 0#32
  let main_v22 : IVec S4x4 32 := (fun x v => Host.reduce IntOp.addi x v reducesTo_S4x512x4_S4x4_d1 h_S_) main_v21 main_c_2
  let main_v23 : IVec S4 32 := iotaInDim S4 32 0
  let main_v24 : IVec S4x1 32 := broadcastInDim S4x1 ![0] bcast_S4_S4x1_0 main_v23
  let main_v25 : IVec S4 32 := iotaInDim S4 32 0
  let main_v26 : IVec S1x4 32 := broadcastInDim S1x4 ![1] bcast_S4_S1x4_1 main_v25
  let main_v27 : IVec S4x4 32 := broadcastInDim S4x4 ![0, 1] bcast_S4x1_S4x4_0_1 main_v24
  let main_v28 : IVec S4x4 32 := broadcastInDim S4x4 ![0, 1] bcast_S1x4_S4x4_0_1 main_v26
  let main_v29 : IVec S4x4 1 := cmpi .eq main_v27 main_v28
  let main_c_3 : IVec S_ 32 := constantI S_ 32 128#32
  let main_v30 : IVec S32 32 := broadcastInDim S32 ![] bcast_S_S32 main_c_3
  let main_v31 : IVec S32 1 := cmpi .sle main_v6 main_v30
  let main_c_4 : IVec S_ 1 := constantI S_ 1 1#1
  let main_v32 : IVec S_ 1 := (fun x v => Host.reduce IntOp.andi x v reducesTo_S32_S_d0 h_S_) main_v31 main_c_4
  let main_c_5 : IVec S_ 32 := constantI S_ 32 192#32
  let main_v33 : IVec S4x4 32 := broadcastInDim S4x4 ![] bcast_S_S4x4 main_c_5
  let main_v34 : IVec S4x4 1 := cmpi .sle main_v22 main_v33
  let main_v35 : IVec S4x4 1 := ori main_v34 main_v29
  let main_c_6 : IVec S_ 1 := constantI S_ 1 1#1
  let main_v36 : IVec S_ 1 := (fun x v => Host.reduce IntOp.andi x v reducesTo_S4x4_S_d0_1 h_S_) main_v35 main_c_6
  let main_v37 : IVec S_ 1 := andi main_v32 main_v36
  main_v37

def fn {F : FTy → Type} [FloatOps F] (main_arg0 : FVec F S2048x1024 .f32) (main_arg1 : FVec F S1024x32 .f32) (main_arg2 : IVec S2048x1 32) (main_arg3 : FVec F S8x1024x1024 .f32) (main_arg4 : FVec F S1024x1024 .f32) : IVec S_ 1 :=
  let main_v0 : IVec S32 32 := iotaInDim S32 32 0
  let main_v1 : IVec S1x32 32 := broadcastInDim S1x32 ![1] bcast_S32_S1x32_1 main_v0
  let main_v2 : IVec S2048x32 32 := broadcastInDim S2048x32 ![0, 1] bcast_S2048x1_S2048x32_0_1 main_arg2
  let main_v3 : IVec S2048x32 32 := broadcastInDim S2048x32 ![0, 1] bcast_S1x32_S2048x32_0_1 main_v1
  let main_v4 : IVec S2048x32 1 := cmpi .eq main_v2 main_v3
  let main_v5 : IVec S2048x32 32 := (extui 32 · natLt_1_32) main_v4
  let main_c : IVec S_ 32 := constantI S_ 32 0#32
  let main_v6 : IVec S32 32 := (fun x v => Host.reduce IntOp.addi x v reducesTo_S2048x32_S32_d0 h_S_) main_v5 main_c
  let main_v7 : IVec S4 32 := iotaInDim S4 32 0
  let main_v8 : IVec S1x4 32 := broadcastInDim S1x4 ![1] bcast_S4_S1x4_1 main_v7
  let main_c_0 : IVec S_ 32 := constantI S_ 32 8#32
  let main_v9 : IVec S1x4 32 := broadcastInDim S1x4 ![] bcast_S_S1x4 main_c_0
  let main_v10 : IVec S1x4 32 := muli main_v9 main_v8
  let main_v11 : IVec S2048x4 32 := broadcastInDim S2048x4 ![0, 1] bcast_S2048x1_S2048x4_0_1 main_arg2
  let main_v12 : IVec S2048x4 32 := broadcastInDim S2048x4 ![0, 1] bcast_S1x4_S2048x4_0_1 main_v10
  let main_v13 : IVec S2048x4 1 := cmpi .sge main_v11 main_v12
  let main_c_1 : IVec S_ 32 := constantI S_ 32 8#32
  let main_v14 : IVec S1x4 32 := broadcastInDim S1x4 ![] bcast_S_S1x4 main_c_1
  let main_v15 : IVec S1x4 32 := addi main_v10 main_v14
  let main_v16 : IVec S2048x4 32 := broadcastInDim S2048x4 ![0, 1] bcast_S2048x1_S2048x4_0_1 main_arg2
  let main_v17 : IVec S2048x4 32 := broadcastInDim S2048x4 ![0, 1] bcast_S1x4_S2048x4_0_1 main_v15
  let main_v18 : IVec S2048x4 1 := cmpi .slt main_v16 main_v17
  let main_v19 : IVec S2048x4 1 := andi main_v13 main_v18
  let main_v20 : IVec S2048x4 32 := (extui 32 · natLt_1_32) main_v19
  fn_part1 (F := F) main_v6 main_v20
-- ==== Pre_fits_ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S1024x1024 : Shape := ⟨2, ![1024, 1024]⟩
abbrev S32 : Shape := ⟨1, ![32]⟩
abbrev S1x32 : Shape := ⟨2, ![1, 32]⟩
abbrev S2048x32 : Shape := ⟨2, ![2048, 32]⟩
abbrev S_ : Shape := ⟨0, ![]⟩
abbrev S4 : Shape := ⟨1, ![4]⟩
abbrev S1x4 : Shape := ⟨2, ![1, 4]⟩
abbrev S2048x4 : Shape := ⟨2, ![2048, 4]⟩
abbrev S4x512x4 : Shape := ⟨3, ![4, 512, 4]⟩
abbrev S4x4 : Shape := ⟨2, ![4, 4]⟩
abbrev S4x1 : Shape := ⟨2, ![4, 1]⟩

class Facts : Prop where
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  natLt_1_32 : 1 < 32
  reducesTo_S2048x32_S32_d0 : S2048x32.ReducesTo [0] S32
  h_S_ : 0 < S_.numel
  bcast_S4_S1x4_1 : S4.BroadcastsInDim S1x4 (![1] : Fin 1 → Fin S1x4.rank)
  bcast_S_S1x4 : S_.BroadcastsInDim S1x4 (![] : Fin 0 → Fin S1x4.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  shapeCasts_S2048x4_S4x512x4 : S2048x4.ShapeCasts S4x512x4
  reducesTo_S4x512x4_S4x4_d1 : S4x512x4.ReducesTo [1] S4x4
  bcast_S4_S4x1_0 : S4.BroadcastsInDim S4x1 (![0] : Fin 1 → Fin S4x1.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S_S32 : S_.BroadcastsInDim S32 (![] : Fin 0 → Fin S32.rank)
  reducesTo_S32_S_d0 : S32.ReducesTo [0] S_
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_v6 : IVec S32 32) (main_v20 : IVec S2048x4 32) : IVec S_ 1 :=
  let main_v21 : IVec S4x512x4 32 := shapeCast S4x512x4 main_v20 shapeCasts_S2048x4_S4x512x4
  let main_c_2 : IVec S_ 32 := constantI S_ 32 0#32
  let main_v22 : IVec S4x4 32 := (fun x v => Host.reduce IntOp.addi x v reducesTo_S4x512x4_S4x4_d1 h_S_) main_v21 main_c_2
  let main_v23 : IVec S4 32 := iotaInDim S4 32 0
  let main_v24 : IVec S4x1 32 := broadcastInDim S4x1 ![0] bcast_S4_S4x1_0 main_v23
  let main_v25 : IVec S4 32 := iotaInDim S4 32 0
  let main_v26 : IVec S1x4 32 := broadcastInDim S1x4 ![1] bcast_S4_S1x4_1 main_v25
  let main_v27 : IVec S4x4 32 := broadcastInDim S4x4 ![0, 1] bcast_S4x1_S4x4_0_1 main_v24
  let main_v28 : IVec S4x4 32 := broadcastInDim S4x4 ![0, 1] bcast_S1x4_S4x4_0_1 main_v26
  let main_v29 : IVec S4x4 1 := cmpi .eq main_v27 main_v28
  let main_c_3 : IVec S_ 32 := constantI S_ 32 128#32
  let main_v30 : IVec S32 32 := broadcastInDim S32 ![] bcast_S_S32 main_c_3
  let main_v31 : IVec S32 1 := cmpi .sle main_v6 main_v30
  let main_c_4 : IVec S_ 1 := constantI S_ 1 1#1
  let main_v32 : IVec S_ 1 := (fun x v => Host.reduce IntOp.andi x v reducesTo_S32_S_d0 h_S_) main_v31 main_c_4
  let main_c_5 : IVec S_ 32 := constantI S_ 32 192#32
  let main_v33 : IVec S4x4 32 := broadcastInDim S4x4 ![] bcast_S_S4x4 main_c_5
  let main_v34 : IVec S4x4 1 := cmpi .sle main_v22 main_v33
  let main_v35 : IVec S4x4 1 := ori main_v34 main_v29
  let main_c_6 : IVec S_ 1 := constantI S_ 1 1#1
  let main_v36 : IVec S_ 1 := (fun x v => Host.reduce IntOp.andi x v reducesTo_S4x4_S_d0_1 h_S_) main_v35 main_c_6
  let main_v37 : IVec S_ 1 := andi main_v32 main_v36
  main_v37

def fn {F : FTy → Type} [FloatOps F] (main_arg0 : FVec F S2048x1024 .f32) (main_arg1 : FVec F S1024x32 .f32) (main_arg2 : IVec S2048x1 32) (main_arg3 : FVec F S32x1024x1024 .f32) (main_arg4 : FVec F S1024x1024 .f32) : IVec S_ 1 :=
  let main_v0 : IVec S32 32 := iotaInDim S32 32 0
  let main_v1 : IVec S1x32 32 := broadcastInDim S1x32 ![1] bcast_S32_S1x32_1 main_v0
  let main_v2 : IVec S2048x32 32 := broadcastInDim S2048x32 ![0, 1] bcast_S2048x1_S2048x32_0_1 main_arg2
  let main_v3 : IVec S2048x32 32 := broadcastInDim S2048x32 ![0, 1] bcast_S1x32_S2048x32_0_1 main_v1
  let main_v4 : IVec S2048x32 1 := cmpi .eq main_v2 main_v3
  let main_v5 : IVec S2048x32 32 := (extui 32 · natLt_1_32) main_v4
  let main_c : IVec S_ 32 := constantI S_ 32 0#32
  let main_v6 : IVec S32 32 := (fun x v => Host.reduce IntOp.addi x v reducesTo_S2048x32_S32_d0 h_S_) main_v5 main_c
  let main_v7 : IVec S4 32 := iotaInDim S4 32 0
  let main_v8 : IVec S1x4 32 := broadcastInDim S1x4 ![1] bcast_S4_S1x4_1 main_v7
  let main_c_0 : IVec S_ 32 := constantI S_ 32 8#32
  let main_v9 : IVec S1x4 32 := broadcastInDim S1x4 ![] bcast_S_S1x4 main_c_0
  let main_v10 : IVec S1x4 32 := muli main_v9 main_v8
  let main_v11 : IVec S2048x4 32 := broadcastInDim S2048x4 ![0, 1] bcast_S2048x1_S2048x4_0_1 main_arg2
  let main_v12 : IVec S2048x4 32 := broadcastInDim S2048x4 ![0, 1] bcast_S1x4_S2048x4_0_1 main_v10
  let main_v13 : IVec S2048x4 1 := cmpi .sge main_v11 main_v12
  let main_c_1 : IVec S_ 32 := constantI S_ 32 8#32
  let main_v14 : IVec S1x4 32 := broadcastInDim S1x4 ![] bcast_S_S1x4 main_c_1
  let main_v15 : IVec S1x4 32 := addi main_v10 main_v14
  let main_v16 : IVec S2048x4 32 := broadcastInDim S2048x4 ![0, 1] bcast_S2048x1_S2048x4_0_1 main_arg2
  let main_v17 : IVec S2048x4 32 := broadcastInDim S2048x4 ![0, 1] bcast_S1x4_S2048x4_0_1 main_v15
  let main_v18 : IVec S2048x4 1 := cmpi .slt main_v16 main_v17
  let main_v19 : IVec S2048x4 1 := andi main_v13 main_v18
  let main_v20 : IVec S2048x4 32 := (extui 32 · natLt_1_32) main_v19
  fn_part1 (F := F) main_v6 main_v20
-- ==== Kernel.lean ====
abbrev S2048x1024 : Shape := ⟨2, ![2048, 1024]⟩
abbrev S1024x32 : Shape := ⟨2, ![1024, 32]⟩
abbrev S2048x1 : Shape := ⟨2, ![2048, 1]⟩
abbrev S8x1024x1024 : Shape := ⟨3, ![8, 1024, 1024]⟩
abbrev S1024x1024 : Shape := ⟨2, ![1024, 1024]⟩
abbrev S512x1024 : Shape := ⟨2, ![512, 1024]⟩
abbrev S2x1024x1024 : Shape := ⟨3, ![2, 1024, 1024]⟩
abbrev S2048x192 : Shape := ⟨2, ![2048, 192]⟩
abbrev S3x192x1024 : Shape := ⟨3, ![3, 192, 1024]⟩
abbrev S2 : Shape := ⟨1, ![2]⟩
abbrev S3 : Shape := ⟨1, ![3]⟩
abbrev S_ : Shape := ⟨0, ![]⟩
abbrev S1 : Shape := ⟨1, ![1]⟩
abbrev S1x1024x1024 : Shape := ⟨3, ![1, 1024, 1024]⟩
abbrev S2048x32 : Shape := ⟨2, ![2048, 32]⟩
abbrev S2048 : Shape := ⟨1, ![2048]⟩
abbrev S2048x8 : Shape := ⟨2, ![2048, 8]⟩
abbrev S1x8 : Shape := ⟨2, ![1, 8]⟩
abbrev S2047x8 : Shape := ⟨2, ![2047, 8]⟩
abbrev S2x8 : Shape := ⟨2, ![2, 8]⟩
abbrev S2046x8 : Shape := ⟨2, ![2046, 8]⟩
abbrev S4x8 : Shape := ⟨2, ![4, 8]⟩
abbrev S2044x8 : Shape := ⟨2, ![2044, 8]⟩
abbrev S8x8 : Shape := ⟨2, ![8, 8]⟩
abbrev S2040x8 : Shape := ⟨2, ![2040, 8]⟩
abbrev S16x8 : Shape := ⟨2, ![16, 8]⟩
abbrev S2032x8 : Shape := ⟨2, ![2032, 8]⟩
abbrev S32x8 : Shape := ⟨2, ![32, 8]⟩
abbrev S2016x8 : Shape := ⟨2, ![2016, 8]⟩
abbrev S64x8 : Shape := ⟨2, ![64, 8]⟩
abbrev S1984x8 : Shape := ⟨2, ![1984, 8]⟩
abbrev S128x8 : Shape := ⟨2, ![128, 8]⟩
abbrev S1920x8 : Shape := ⟨2, ![1920, 8]⟩
abbrev S256x8 : Shape := ⟨2, ![256, 8]⟩
abbrev S1792x8 : Shape := ⟨2, ![1792, 8]⟩
abbrev S512x8 : Shape := ⟨2, ![512, 8]⟩
abbrev S1536x8 : Shape := ⟨2, ![1536, 8]⟩
abbrev S1024x8 : Shape := ⟨2, ![1024, 8]⟩
abbrev S1024x1 : Shape := ⟨2, ![1024, 1]⟩
abbrev S128x1 : Shape := ⟨2, ![128, 1]⟩
abbrev S128x1024 : Shape := ⟨2, ![128, 1024]⟩
abbrev S512x1 : Shape := ⟨2, ![512, 1]⟩
abbrev S1x1 : Shape := ⟨2, ![1, 1]⟩
abbrev S512x4 : Shape := ⟨2, ![512, 4]⟩
abbrev S1x4 : Shape := ⟨2, ![1, 4]⟩
abbrev S511x4 : Shape := ⟨2, ![511, 4]⟩
abbrev S2x4 : Shape := ⟨2, ![2, 4]⟩
abbrev S510x4 : Shape := ⟨2, ![510, 4]⟩
abbrev S4x4 : Shape := ⟨2, ![4, 4]⟩
abbrev S508x4 : Shape := ⟨2, ![508, 4]⟩
abbrev S8x4 : Shape := ⟨2, ![8, 4]⟩
abbrev S504x4 : Shape := ⟨2, ![504, 4]⟩
abbrev S16x4 : Shape := ⟨2, ![16, 4]⟩
abbrev S496x4 : Shape := ⟨2, ![496, 4]⟩
abbrev S32x4 : Shape := ⟨2, ![32, 4]⟩
abbrev S480x4 : Shape := ⟨2, ![480, 4]⟩
abbrev S64x4 : Shape := ⟨2, ![64, 4]⟩
abbrev S448x4 : Shape := ⟨2, ![448, 4]⟩
abbrev S128x4 : Shape := ⟨2, ![128, 4]⟩
abbrev S384x4 : Shape := ⟨2, ![384, 4]⟩
abbrev S256x4 : Shape := ⟨2, ![256, 4]⟩
abbrev S512x192 : Shape := ⟨2, ![512, 192]⟩
abbrev S192x1024 : Shape := ⟨2, ![192, 1024]⟩
abbrev S1x192x1024 : Shape := ⟨3, ![1, 192, 1024]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S8x1024x1024, .f32⟩
  | .hbm, ⟨4, _⟩ => ⟨S1024x1024, .f32⟩
  | .hbm, ⟨5, _⟩ => ⟨S512x1024, .f32⟩
  | .local _ .vmem, ⟨0, _⟩ => ⟨S2048x1024, .f32⟩
  | .local _ .vmem, ⟨1, _⟩ => ⟨S1024x32, .f32⟩
  | .local _ .vmem, ⟨2, _⟩ => ⟨S2048x1, .i32⟩
  | .local _ .vmem, ⟨3, _⟩ => ⟨S1024x1024, .f32⟩
  | .local _ .vmem, ⟨4, _⟩ => ⟨S512x1024, .f32⟩
  | .local _ .vmem, ⟨5, _⟩ => ⟨S2x1024x1024, .f32⟩
  | .local _ .vmem, ⟨6, _⟩ => ⟨S2048x1024, .f32⟩
  | .local _ .vmem, ⟨7, _⟩ => ⟨S1024x1024, .f32⟩
  | .local _ .vmem, ⟨8, _⟩ => ⟨S2048x192, .f32⟩
  | .local _ .vmem, ⟨9, _⟩ => ⟨S3x192x1024, .f32⟩
  | .local _ .vmem, ⟨10, _⟩ => ⟨S3x192x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v346 : BitVec 32 := Scalar.muli v2 c512_i32
  let v347 : Index := Scalar.indexCast v346
  let c0_200 : Index := 0#32
  ![v347.toNat, 0]
def k0_off2 (d0 : Dev nD) (c1_i32_211 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v394 : BitVec 32 := Scalar.addi v2 c1_i32_211
  let c4_i32_212 : BitVec 32 := 4#32
  let v395 : BitVec 32 := Scalar.remsi v394 c4_i32_212
  let c512_i32_213 : BitVec 32 := 512#32
  let v396 : BitVec 32 := Scalar.muli v395 c512_i32_213
  let v397 : Index := Scalar.indexCast v396
  let c0_214 : Index := 0#32
  ![v397.toNat, 0]
def k0_off3 (d0 : Dev nD) (c1_i32_211 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v394 : BitVec 32 := Scalar.addi v2 c1_i32_211
  let c4_i32_212 : BitVec 32 := 4#32
  let v395 : BitVec 32 := Scalar.remsi v394 c4_i32_212
  let c512_i32_213 : BitVec 32 := 512#32
  let v396 : BitVec 32 := Scalar.muli v395 c512_i32_213
  let v399 : Index := Scalar.indexCast v396
  let c0_215 : Index := 0#32
  ![v399.toNat, 0]
def k0_dev4 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_211 : BitVec 32 := 1#32
  let v394 : BitVec 32 := Scalar.addi v2 c1_i32_211
  let c4_i32_212 : BitVec 32 := 4#32
  let v395 : BitVec 32 := Scalar.remsi v394 c4_i32_212
  let c1_i32_227 : BitVec 32 := 1#32
  let v407 : BitVec 32 := Scalar.muli v395 c1_i32_227
  let v408 : BitVec 32 := Scalar.addi c0_i32_228 v407
  v408.toNat
def k0_dev5 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_233 : BitVec 32 := 2#32
  let v417 : BitVec 32 := Scalar.addi v2 c2_i32_233
  let c4_i32_234 : BitVec 32 := 4#32
  let v418 : BitVec 32 := Scalar.remsi v417 c4_i32_234
  let c1_i32_249 : BitVec 32 := 1#32
  let v430 : BitVec 32 := Scalar.muli v418 c1_i32_249
  let v431 : BitVec 32 := Scalar.addi c0_i32_250 v430
  v431.toNat
def k0_dev6 (d0 : Dev nD) : Nat :=
  let c0_i32_271 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_255 : BitVec 32 := 3#32
  let v440 : BitVec 32 := Scalar.addi v2 c3_i32_255
  let c4_i32_256 : BitVec 32 := 4#32
  let v441 : BitVec 32 := Scalar.remsi v440 c4_i32_256
  let c1_i32_270 : BitVec 32 := 1#32
  let v453 : BitVec 32 := Scalar.muli v441 c1_i32_270
  let v454 : BitVec 32 := Scalar.addi c0_i32_271 v453
  v454.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_276 : BitVec 32 := 512#32
  let v463 : BitVec 32 := Scalar.muli v2 c512_i32_276
  let v464 : Index := Scalar.indexCast v463
  let c0_277 : Index := 0#32
  ![v464.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x1024 : Shape := ⟨2, ![2048, 1024]⟩
abbrev S1024x32 : Shape := ⟨2, ![1024, 32]⟩
abbrev S2048x1 : Shape := ⟨2, ![2048, 1]⟩
abbrev S32x1024x1024 : Shape := ⟨3, ![32, 1024, 1024]⟩
abbrev S1024x1024 : Shape := ⟨2, ![1024, 1024]⟩
abbrev S2048x32 : Shape := ⟨2, ![2048, 32]⟩
abbrev S_ : Shape := ⟨0, ![]⟩
abbrev S2048 : Shape := ⟨1, ![2048]⟩
abbrev S32 : Shape := ⟨1, ![32]⟩
abbrev S1x32 : Shape := ⟨2, ![1, 32]⟩
abbrev S2048x32x1024 : Shape := ⟨3, ![2048, 32, 1024]⟩
abbrev S2048x32x1 : Shape := ⟨3, ![2048, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x1, .i32⟩
  | .hbm, ⟨3, _⟩ => ⟨S32x1024x1024, .f32⟩
  | .hbm, ⟨4, _⟩ => ⟨S1024x1024, .f32⟩
  | .hbm, ⟨5, _⟩ => ⟨S2048x32, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x32, .f32⟩
  | .hbm, ⟨16, _⟩ => ⟨S2048x32, .f32⟩
  | .hbm, ⟨17, _⟩ => ⟨S2048x1024, .f32⟩
  | .hbm, ⟨18, _⟩ => ⟨S32, .i32⟩
  | .hbm, ⟨19, _⟩ => ⟨S1x32, .i32⟩
  | .hbm, ⟨20, _⟩ => ⟨S2048x32, .i32⟩
  | .hbm, ⟨21, _⟩ => ⟨S2048x32, .i32⟩
  | .hbm, ⟨22, _⟩ => ⟨S2048x32, .i1⟩
  | .hbm, ⟨23, _⟩ => ⟨S2048x32x1024, .f32⟩
  | .hbm, ⟨24, _⟩ => ⟨S2048x32x1, .i1⟩
  | .hbm, ⟨25, _⟩ => ⟨S2048x32x1, .f32⟩
  | .hbm, ⟨26, _⟩ => ⟨S2048x32x1024, .f32⟩
  | .hbm, ⟨27, _⟩ => ⟨S2048x32x1024, .f32⟩
  | .hbm, ⟨28, _⟩ => ⟨S_, .f32⟩
  | .hbm, ⟨29, _⟩ => ⟨S_, .f32⟩
  | .hbm, ⟨30, _⟩ => ⟨S2048x32x1024, .i1⟩
  | .hbm, ⟨31, _⟩ => ⟨S2048x32x1024, .f32⟩
  | .hbm, ⟨32, _⟩ => ⟨S2048x32x1024, .f32⟩
  | .hbm, ⟨33, _⟩ => ⟨S_, .f32⟩
  | .hbm, ⟨34, _⟩ => ⟨S2048x1024, .f32⟩
  | .hbm, ⟨35, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Exchange.lean ====
/-
# The exchange among the four devices

Every device signals the barrier semaphore of each of the other three, waits for three units of its
own, and later sends one packed block of 192 rows to each of the others. This module states that
exchange over the rounds library: who pays which semaphore, how much, and what each payment hands
over. The packed blocks' values are a parameter (`SV p s`: what device `p` sends with its transfer
number `s`), so nothing here depends on what the kernel computes.

Device numbers are taken around the ring: `sh s c` is the device `s + 1` after `c`. Device `c`'s
signal number `s` goes to `sh s c`, and so does its transfer number `s`, which lands in slot
`rev s = 2 - s` of the receiver. Seen from the receiver `c`, slot `j` is filled by `sh j c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra

The pipeline's rounds, the exchange's rounds (duties numbered 0, 1, 2), the local copies' counters.
A tally's index is `false` for what a device waits for on its own account (staging and weight
copies) and `true` for what the devices owe one another. -/

abbrev UB : Type := URounds (GSem nD τ sig) (Fin 3)
abbrev UU : Type := UR sig nD τ × (UB × Counters)

local notation "𝕄" => MT nD τ sig Bool (Elt F) ℕ UU ℕ

abbrev EP : Emb (UR sig nD τ) (MT nD τ sig Bool (Elt F) ℕ UU ℕ) := embL
/-- The exchange's rounds: the left half of the right factor. -/
def ER : Emb UB (MT nD τ sig Bool (Elt F) ℕ UU ℕ) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb
instance ER_landsIn : (ER : Emb UB 𝕄).LandsIn (upEmb : UEmb _ 𝕄) := by unfold ER; infer_instance

/-! ## The ring -/

set_option backward.proofsInPublic true in
/-- The device `s + 1` after `c`. -/
def sh (s : Fin 3) (c : Dev nD) : Dev nD := ⟨(c.val + s.val + 1) % 4, Nat.mod_lt _ (by decide)⟩
/-- The shift that undoes `s`. -/
abbrev rev (s : Fin 3) : Fin 3 := Fin.rev s

theorem sh_rev (s : Fin 3) (c : Dev nD) : sh s (sh (rev s) c) = c := by revert s c; decide
theorem rev_sh (s : Fin 3) (c : Dev nD) : sh (rev s) (sh s c) = c := by revert s c; decide
theorem sh_ne (s : Fin 3) (c : Dev nD) : sh s c ≠ c := by revert s c; decide

/-- Going `s + 1` steps around the ring, undone by going `rev s + 1` steps. -/
def ring (s : Fin 3) : Dev nD ≃ Dev nD := ⟨sh s, sh (rev s), rev_sh s, sh_rev s⟩

theorem dev1_eq (c : Dev nD) : (⟨k0_dev1 c, k0_dev1_lt c⟩ : Dev nD) = sh 0 c := Fin.ext (k0_dev1_eq c)
theorem dev2_eq (c : Dev nD) : (⟨k0_dev2 c, k0_dev2_lt c⟩ : Dev nD) = sh 1 c := Fin.ext (k0_dev2_eq c)
theorem dev3_eq (c : Dev nD) : (⟨k0_dev3 c, k0_dev3_lt c⟩ : Dev nD) = sh 2 c := Fin.ext (k0_dev3_eq c)
theorem dev4_eq (c : Dev nD) : (⟨k0_dev4 c, k0_dev4_lt c⟩ : Dev nD) = sh 0 c := Fin.ext (k0_dev4_eq c)
theorem dev5_eq (c : Dev nD) : (⟨k0_dev5 c, k0_dev5_lt c⟩ : Dev nD) = sh 1 c := Fin.ext (k0_dev5_eq c)
theorem dev6_eq (c : Dev nD) : (⟨k0_dev6 c, k0_dev6_lt c⟩ : Dev nD) = sh 2 c := Fin.ext (k0_dev6_eq c)

/-! ## The slots and the semaphores -/

/-- The receive buffer's slots. -/
abbrev recv0 : Memref sig .tc .vmem S192x1024 .f32 :=
  ((Memref.whole cc0_scratch5).slice (Rect.unit (s := S3x192x1024) ![0, 0, 0] S1x192x1024.size inb_S3x192x1024_S1x192x1024_0_0_0) (fun _ => rfl)).squeeze S192x1024 squeezes_S1x192x1024_S192x1024
abbrev recv1 : Memref sig .tc .vmem S192x1024 .f32 :=
  ((Memref.whole cc0_scratch5).slice (Rect.unit (s := S3x192x1024) ![1, 0, 0] S1x192x1024.size inb_S3x192x1024_S1x192x1024_1_0_0) (fun _ => rfl)).squeeze S192x1024 squeezes_S1x192x1024_S192x1024
abbrev recv2 : Memref sig .tc .vmem S192x1024 .f32 :=
  ((Memref.whole cc0_scratch5).slice (Rect.unit (s := S3x192x1024) ![2, 0, 0] S1x192x1024.size inb_S3x192x1024_S1x192x1024_2_0_0) (fun _ => rfl)).squeeze S192x1024 squeezes_S1x192x1024_S192x1024
/-- The send buffer's slots. -/
abbrev send0 : Memref sig .tc .vmem S192x1024 .f32 :=
  ((Memref.whole cc0_scratch4).slice (Rect.unit (s := S3x192x1024) ![0, 0, 0] S1x192x1024.size inb_S3x192x1024_S1x192x1024_0_0_0) (fun _ => rfl)).squeeze S192x1024 squeezes_S1x192x1024_S192x1024
abbrev send1 : Memref sig .tc .vmem S192x1024 .f32 :=
  ((Memref.whole cc0_scratch4).slice (Rect.unit (s := S3x192x1024) ![1, 0, 0] S1x192x1024.size inb_S3x192x1024_S1x192x1024_1_0_0) (fun _ => rfl)).squeeze S192x1024 squeezes_S1x192x1024_S192x1024
abbrev send2 : Memref sig .tc .vmem S192x1024 .f32 :=
  ((Memref.whole cc0_scratch4).slice (Rect.unit (s := S3x192x1024) ![2, 0, 0] S1x192x1024.size inb_S3x192x1024_S1x192x1024_2_0_0) (fun _ => rfl)).squeeze S192x1024 squeezes_S1x192x1024_S192x1024

abbrev recvM : Fin 3 → Memref sig .tc .vmem S192x1024 .f32 := fun | 0 => recv0 | 1 => recv1 | 2 => recv2
abbrev sendM : Fin 3 → Memref sig .tc .vmem S192x1024 .f32 := fun | 0 => send0 | 1 => send1 | 2 => send2

/-- The barrier semaphore, and the send and receive semaphores of the slots. -/
abbrev barS : Sem sig := (SemArray.scalar (sig.barrier 0 rfl) : Sems sig S_).sem
abbrev sendS0 : DmaSem sig := ((cc0_scratch7.slice (Rect.unit (s := S3) ![0] S1.size inb_S3_S1_0)).squeeze S_ squeezes_S1_S_ : DmaSems sig S_).sem
abbrev sendS1 : DmaSem sig := ((cc0_scratch7.slice (Rect.unit (s := S3) ![1] S1.size inb_S3_S1_1)).squeeze S_ squeezes_S1_S_ : DmaSems sig S_).sem
abbrev sendS2 : DmaSem sig := ((cc0_scratch7.slice (Rect.unit (s := S3) ![2] S1.size inb_S3_S1_2)).squeeze S_ squeezes_S1_S_ : DmaSems sig S_).sem
abbrev recvS0 : DmaSem sig := ((cc0_scratch8.slice (Rect.unit (s := S3) ![0] S1.size inb_S3_S1_0)).squeeze S_ squeezes_S1_S_ : DmaSems sig S_).sem
abbrev recvS1 : DmaSem sig := ((cc0_scratch8.slice (Rect.unit (s := S3) ![1] S1.size inb_S3_S1_1)).squeeze S_ squeezes_S1_S_ : DmaSems sig S_).sem
abbrev recvS2 : DmaSem sig := ((cc0_scratch8.slice (Rect.unit (s := S3) ![2] S1.size inb_S3_S1_2)).squeeze S_ squeezes_S1_S_ : DmaSems sig S_).sem
/-- The weight copies' semaphores. -/
abbrev wS0 : DmaSem sig := ((cc0_scratch6.slice (Rect.unit (s := S2) ![0] S1.size inb_S2_S1_0)).squeeze S_ squeezes_S1_S_ : DmaSems sig S_).sem
abbrev wS1 : DmaSem sig := ((cc0_scratch6.slice (Rect.unit (s := S2) ![1] S1.size inb_S2_S1_1)).squeeze S_ squeezes_S1_S_ : DmaSems sig S_).sem

/-- The exchange's seven semaphores of one device: the barrier, the three send, the three receive. -/
abbrev csem : Fin 7 → SemLoc sig := fun
  | 0 => .reg barS | 1 => .dma sendS0 | 2 => .dma sendS1 | 3 => .dma sendS2 | 4 => .dma recvS0 | 5 => .dma recvS1 | 6 => .dma recvS2
abbrev kcell (ck : Dev nD × Fin 7) : GSem nD τ sig := ((ck.1 : Thread nD τ), csem ck.2)
abbrev barCell (c : Dev nD) : GSem nD τ sig := ((c : Thread nD τ), .reg barS)
abbrev sendS : Fin 3 → DmaSem sig := fun | 0 => sendS0 | 1 => sendS1 | 2 => sendS2
abbrev recvS : Fin 3 → DmaSem sig := fun | 0 => recvS0 | 1 => recvS1 | 2 => recvS2
abbrev sendCell (j : Fin 3) (c : Dev nD) : GSem nD τ sig := ((c : Thread nD τ), .dma (sendS j))
abbrev recvCell (j : Fin 3) (c : Dev nD) : GSem nD τ sig := ((c : Thread nD τ), .dma (recvS j))

/-- Which of the seven a semaphore is, if any. -/
def kindOf : SemLoc sig → Option (Fin 7)
  | .reg _ => some 0
  | .dma q => if h : 7 ≤ q.val then some ⟨q.val - 6, by have : q.val < 13 := q.isLt; omega⟩ else none

theorem kind_csem (k : Fin 7) : kindOf (csem k) = some k := by revert k; decide
theorem kind_bar : kindOf (.reg barS) = some 0 := kind_csem 0
theorem kind_send (j : Fin 3) : kindOf (.dma (sendS j)) = some ⟨j.val + 1, by omega⟩ := by revert j; decide
theorem kind_recv (j : Fin 3) : kindOf (.dma (recvS j)) = some ⟨j.val + 4, by omega⟩ := by revert j; decide

/-- The credit of one packed block. -/
abbrev N : ℕ := recv0.view.dmaCredit
theorem N_pos : 0 < N := View.dmaCredit_pos _ (by decide)

/-! ## What each payment hands over -/

instance elt_nonempty : ∀ e, Nonempty (Elt F e) := inferInstance

/-- Slot `j` of device `c`'s receive buffer, at contents `f`. -/
def recvPts (j : Fin 3) (c : Dev nD) (f : Buf (Elt F) ((recvM j).view.loc (c : Thread nD τ))) : sProp 𝕄 :=
  (recvM j).view.loc (c : Thread nD τ) ↦[(recvM j).view.set]{fullShare} f
/-- Slot `j` of device `c`'s send buffer, at contents `f`. -/
def sendPts (j : Fin 3) (c : Dev nD) (f : Buf (Elt F) ((sendM j).view.loc (c : Thread nD τ))) : sProp 𝕄 :=
  (sendM j).view.loc (c : Thread nD τ) ↦[(sendM j).view.set]{fullShare} f

instance recvPts_storable (j : Fin 3) (c : Dev nD) (f) : BI.Storable (upEmb : UEmb _ 𝕄) (recvPts (F := F) j c f) := by unfold recvPts; infer_instance
instance sendPts_storable (j : Fin 3) (c : Dev nD) (f) : BI.Storable (upEmb : UEmb _ 𝕄) (sendPts (F := F) j c f) := by unfold sendPts; infer_instance

variable (SV : Dev nD → Fin 3 → Vec F S192x1024 .f32)

/-- With duty `d` of `c`'s barrier, the device `sh (rev d) c` hands `c` the slot `c` will send into, and that it is at
    round 0 of that slot's receive semaphore. -/
def barPay (d : Fin 3) (c : Dev nD) : sProp 𝕄 :=
  iprop((∃ f, recvPts d (sh (rev d) c) f) ∗ reached ER (recvCell d (sh (rev d) c)) 0)
/-- A landed transfer hands over the slot holding what its sender sent. -/
def recvPay (j : Fin 3) (c : Dev nD) : sProp 𝕄 := recvPts j c ((recvM j).view.rep (SV (sh j c) (rev j)))
/-- A departed transfer gives its source slot back. -/
def sendPay (j : Fin 3) (c : Dev nD) : sProp 𝕄 := sendPts j c ((sendM j).view.rep (SV c j))

/-- The payload of a semaphore of kind `k` of device `c`. -/
def payK (c : Dev nD) (d : Fin 3) : Fin 7 → sProp 𝕄 := fun
  | 0 => barPay d c
  | 1 => sendPay SV 0 c | 2 => sendPay SV 1 c | 3 => sendPay SV 2 c
  | 4 => recvPay SV 0 c | 5 => recvPay SV 1 c | 6 => recvPay SV 2 c

instance payK_storable (c : Dev nD) (d : Fin 3) (k : Fin 7) : BI.Storable (upEmb : UEmb _ 𝕄) (payK (F := F) SV c d k) := by
  unfold payK barPay recvPay sendPay
  split <;> infer_instance

/-- The schedule: one round; a barrier has three duties of one unit each, a send or receive semaphore one duty of a
    block's credit. -/
def exch : Rounds.Schedule (GSem nD τ sig) (Fin 3) 𝕄 where
  duties g r := if r = 0 ∧ g.1.2 = .tc then (match kindOf g.2 with | none => ∅ | some k => if k = 0 then Finset.univ else {0}) else ∅
  unitless _ := False
  amount g _ _ := if kindOf g.2 = some 0 then 1 else N
  payload g _ d := match kindOf g.2 with | none => iprop(emp) | some k => payK SV g.1.1 d k
  amount_pos g _ _ _ := by
    by_cases h : kindOf g.2 = some 0
    · rw [if_pos h]; exact Nat.one_pos
    · rw [if_neg h]; exact N_pos

instance exch_payload_storable (g : GSem nD τ sig) (r : ℕ) (d : Fin 3) :
    BI.Storable (upEmb : UEmb _ 𝕄) ((exch (F := F) SV).payload g r d) := by
  show BI.Storable upEmb (match kindOf g.2 with | none => iprop(emp) | some k => payK SV g.1.1 d k)
  split <;> infer_instance

section Tables
variable (c : Dev nD)

theorem duties_bar : (exch (F := F) SV).duties (barCell c) 0 = Finset.univ := by
  dsimp only [exch]; rw [if_pos ⟨rfl, rfl⟩, kind_bar]; rfl
theorem duties_send (j : Fin 3) : (exch (F := F) SV).duties (sendCell j c) 0 = {0} := by
  dsimp only [exch]; rw [if_pos ⟨rfl, rfl⟩, kind_send]; exact if_neg (by revert j; decide)
theorem duties_recv (j : Fin 3) : (exch (F := F) SV).duties (recvCell j c) 0 = {0} := by
  dsimp only [exch]; rw [if_pos ⟨rfl, rfl⟩, kind_recv]; exact if_neg (by revert j; decide)
theorem duties_later (g : GSem nD τ sig) : ∀ r, 1 ≤ r → (exch (F := F) SV).duties g r = ∅ :=
  fun r hr => by dsimp only [exch]; rw [if_neg fun h => by omega]

theorem amount_bar (d : Fin 3) : (exch (F := F) SV).amount (barCell c) 0 d = 1 := by dsimp only [exch]; exact if_pos kind_bar
theorem amount_send (j d : Fin 3) : (exch (F := F) SV).amount (sendCell j c) 0 d = N := by
  dsimp only [exch]; exact if_neg (by rw [kind_send]; revert j; decide)
theorem amount_recv (j d : Fin 3) : (exch (F := F) SV).amount (recvCell j c) 0 d = N := by
  dsimp only [exch]; exact if_neg (by rw [kind_recv]; revert j; decide)

theorem expect_bar : (exch (F := F) SV).expect (barCell c) 0 = 3 := by
  unfold Schedule.expect Schedule.amountOf
  rw [duties_bar, Finset.sum_congr rfl fun d _ => amount_bar SV c d, Finset.sum_const, Finset.card_univ, Fintype.card_fin, smul_eq_mul]
theorem expect_send (j : Fin 3) : (exch (F := F) SV).expect (sendCell j c) 0 = N := by
  unfold Schedule.expect Schedule.amountOf; rw [duties_send, Finset.sum_singleton, amount_send]
theorem expect_recv (j : Fin 3) : (exch (F := F) SV).expect (recvCell j c) 0 = N := by
  unfold Schedule.expect Schedule.amountOf; rw [duties_recv, Finset.sum_singleton, amount_recv]

theorem payload_bar (d : Fin 3) : (exch (F := F) SV).payload (barCell c) 0 d = barPay d c := by
  dsimp only [exch]; rw [kind_bar]; rfl
theorem payload_send (j d : Fin 3) : (exch (F := F) SV).payload (sendCell j c) 0 d = sendPay SV j c := by
  dsimp only [exch]; rw [kind_send]; fin_cases j <;> rfl
theorem payload_recv (j d : Fin 3) : (exch (F := F) SV).payload (recvCell j c) 0 d = recvPay SV j c := by
  dsimp only [exch]; rw [kind_recv]; fin_cases j <;> rfl

/-- The barrier's whole round: the three slots the device will send into. -/
theorem rest_bar : bigSep ((exch (F := F) SV).duties (barCell c) 0 \ ∅) (fun d => (exch (F := F) SV).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (j : Fin 3) : bigSep ((exch (F := F) SV).duties (sendCell j c) 0 \ ∅) (fun d => (exch (F := F) SV).payload (sendCell j c) 0 d) = sendPay SV j c := by
  rw [Finset.sdiff_empty, duties_send, bigSep_singleton, payload_send]
theorem rest_recv (j : Fin 3) : bigSep ((exch (F := F) SV).duties (recvCell j c) 0 \ ∅) (fun d => (exch (F := F) SV).payload (recvCell j c) 0 d) = recvPay SV j c := by
  rw [Finset.sdiff_empty, duties_recv, bigSep_singleton, payload_recv]

theorem all_send (j : Fin 3) : bigSep ((exch (F := F) SV).duties (sendCell j c) 0) (fun d => (exch (F := F) SV).payload (sendCell j c) 0 d) = sendPay SV j c := by
  rw [duties_send, bigSep_singleton, payload_send]
theorem all_recv (j : Fin 3) : bigSep ((exch (F := F) SV).duties (recvCell j c) 0) (fun d => (exch (F := F) SV).payload (recvCell j c) 0 d) = recvPay SV j c := by
  rw [duties_recv, bigSep_singleton, payload_recv]

end Tables

/-! ## What each device owes at launch, and the order of waits -/

/-- The three blocks' credits device `c` owes the receivers, the first transfer's last. -/
def OR (c : Dev nD) : CellTallies nD τ sig Bool :=
  tallyAt (recvCell 0 (sh 2 c)) true N + tallyAt (recvCell 1 (sh 1 c)) true N + tallyAt (recvCell 2 (sh 0 c)) true N
/-- With the three barrier units, the first signal's last. -/
def O₀ (c : Dev nD) : CellTallies nD τ sig Bool :=
  OR c + tallyAt (barCell (sh 2 c)) true 1 + tallyAt (barCell (sh 1 c)) true 1 + tallyAt (barCell (sh 0 c)) true 1

def L (g : GSem nD τ sig) : Finset Bool := if g.1.2 = .tc then Finset.univ else ∅
/-- A device's own waits at 0; what the devices owe one another: barriers at 1, blocks at 2. -/
def lv (g : GSem nD τ sig) (u : Bool) : ℕ := if u = true then (if kindOf g.2 = some 0 then 1 else 2) else 0

theorem L_of_ne (g : GSem nD τ sig) (h : g.1.2 ≠ .tc) : L g = ∅ := if_neg h
theorem mem_L {g : GSem nD τ sig} (h : g.1.2 = .tc) (u : Bool) : u ∈ L g := by unfold L; rw [if_pos h]; exact Finset.mem_univ _

/-- What is owed at `true` indices to TensorCore semaphores only. -/
def Peer (O : CellTallies nD τ sig Bool) : Prop := ∀ g u, 0 < O g u → u = true ∧ g.1.2 = .tc

theorem Peer.zero : Peer 0 := fun g u h => absurd h (Nat.lt_irrefl 0)
theorem Peer.tally (c : Dev nD) (sm : SemLoc sig) (n : ℕ) : Peer (tallyAt ((c : Thread nD τ), sm) true n) := fun g u h => by
  rw [tallyAt_apply] at h
  by_cases hg : g = ((c : Thread nD τ), sm) ∧ u = true
  · exact ⟨hg.2, by rw [hg.1]⟩
  · rw [if_neg hg] at h; exact absurd h (Nat.lt_irrefl 0)
theorem Peer.add {O O' : CellTallies nD τ sig Bool} (h : Peer O) (h' : Peer O') : Peer (O + O') := fun g u hg => by
  rw [Pi.add_apply, Finsupp.add_apply] at hg
  by_cases h0 : 0 < O g u
  · exact h g u h0
  · exact h' g u (by omega)

theorem peer_OR (c : Dev nD) : Peer (OR c) := ((Peer.tally _ _ _).add (Peer.tally _ _ _)).add (Peer.tally _ _ _)
theorem peer_O₀ (c : Dev nD) : Peer (O₀ c) := (((peer_OR c).add (Peer.tally _ _ _)).add (Peer.tally _ _ _)).add (Peer.tally _ _ _)

/-- A device may wait on its own account whatever it owes the others. -/
theorem mayWait_own (c : Dev nD) (sm : SemLoc sig) {O : CellTallies nD τ sig Bool} (hO : Peer O) :
    (levAts L lv : sProp 𝕄) ⊢ MayWait (c : Thread nD τ) sm false O :=
  MayOwe.of_cut (L := L) (lev := lv) 0 (fun p hp => by rw [Finset.mem_singleton.mp hp]; exact mem_L rfl _)
    (fun g u hg => mem_L (hO g u hg).2 _)
    (fun p hp => by rw [Finset.mem_singleton.mp hp]; exact le_rfl)
    (fun g u hg => by
      rw [(hO g u hg).1]; unfold lv; rw [if_pos rfl]; split <;> decide)

theorem mayWaits_own (c : Dev nD) {O : CellTallies nD τ sig Bool} (hO : Peer O) :
    (levAts L lv : sProp 𝕄) ⊢ Transfers.MayWaits (c : Thread nD τ) (default : Bool) O :=
  Transfers.MayWaits.intro fun sm => mayWait_own c sm hO

theorem OR_pos {c : Dev nD} {g : GSem nD τ sig} {u : Bool} (h : 0 < OR c g u) : u = true ∧ g.1.2 = .tc ∧ kindOf g.2 ≠ some 0 := by
  unfold OR at h
  rw [Pi.add_apply, Finsupp.add_apply, Pi.add_apply, Finsupp.add_apply, tallyAt_apply, tallyAt_apply, tallyAt_apply] at h
  by_contra hn
  have aux (j : Fin 3) (d : Dev nD) : ¬ (g = recvCell j d ∧ u = true) := fun h' => hn ⟨h'.2, by rw [h'.1], by
    rw [h'.1]; show kindOf (.dma (recvS j)) ≠ some 0; rw [kind_recv]; clear h'; revert j; decide⟩
  rw [if_neg (aux 0 _), if_neg (aux 1 _), if_neg (aux 2 _)] at h
  exact Nat.lt_irrefl 0 h

/-- At its barrier wait a device owes the three blocks only, which come after the barriers. -/
theorem mayWait_bar (c : Dev nD) : (levAts L lv : sProp 𝕄) ⊢ MayWait (c : Thread nD τ) (.reg barS) true (OR c) :=
  MayOwe.of_cut (L := L) (lev := lv) 1 (fun p hp => by rw [Finset.mem_singleton.mp hp]; exact mem_L rfl _)
    (fun g u hg => mem_L (OR_pos hg).2.1 _)
    (fun p hp => by rw [Finset.mem_singleton.mp hp]; unfold lv; rw [if_pos rfl, if_pos kind_bar])
    (fun g u hg => by
      rw [(OR_pos hg).1]; unfold lv; rw [if_pos rfl, if_neg (OR_pos hg).2.2]; decide)

end Cert.Moe

end
-- ==== Proof.Stage.lean ====
/-
# The buffers of a device and the launch's proof data
-/
module

public import proofs.«01_k».proof.Proof.Exchange
public import Idealize.ShloMosaic.Lib.Transfers

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

/-! ## The weight buffer's two slots -/

abbrev wb0 : Memref sig .tc .vmem S1024x1024 .f32 :=
  ((Memref.whole cc0_scratch0).slice (Rect.unit (s := S2x1024x1024) ![0, 0, 0] S1x1024x1024.size inb_S2x1024x1024_S1x1024x1024_0_0_0) (fun _ => rfl)).squeeze S1024x1024 squeezes_S1x1024x1024_S1024x1024
abbrev wb1 : Memref sig .tc .vmem S1024x1024 .f32 :=
  ((Memref.whole cc0_scratch0).slice (Rect.unit (s := S2x1024x1024) ![1, 0, 0] S1x1024x1024.size inb_S2x1024x1024_S1x1024x1024_1_0_0) (fun _ => rfl)).squeeze S1024x1024 squeezes_S1x1024x1024_S1024x1024

def wb0Pts (c : Dev nD) (f : Buf (Elt F) (wb0.view.loc (c : Thread nD τ))) : sProp 𝕄 := wb0.view.loc (c : Thread nD τ) ↦[wb0.view.set]{fullShare} f
def wb1Pts (c : Dev nD) (f : Buf (Elt F) (wb1.view.loc (c : Thread nD τ))) : sProp 𝕄 := wb1.view.loc (c : Thread nD τ) ↦[wb1.view.set]{fullShare} f

abbrev whole (c : Dev nD) (b : Ref sig .tc) (f : Buf (Elt F) (((c : Dev nD) : Thread nD τ).loc b)) : sProp 𝕄 :=
  (Memref.whole b).view.loc (c : Thread nD τ) ↦{fullShare} f

abbrev 𝒱₀ : Variants := Variants.none

section Body
variable (SV : Dev nD → Fin 3 → Vec F S192x1024 .f32) (K : Dev nD × Fin 7 → ℕ)

/-- The invariants device `c`'s body opens: its own seven cells', the other devices' barrier cells and the receive
    cells its transfers land on. -/
def invs (c : Dev nD) : sProp 𝕄 :=
  iprop(cellInv ER (exch SV) (K (c, 0)) (barCell c)
    ∗ cellInv ER (exch SV) (K (c, 1)) (sendCell 0 c) ∗ cellInv ER (exch SV) (K (c, 2)) (sendCell 1 c) ∗ cellInv ER (exch SV) (K (c, 3)) (sendCell 2 c)
    ∗ cellInv ER (exch SV) (K (c, 4)) (recvCell 0 c) ∗ cellInv ER (exch SV) (K (c, 5)) (recvCell 1 c) ∗ cellInv ER (exch SV) (K (c, 6)) (recvCell 2 c)
    ∗ cellInv ER (exch SV) (K (sh 0 c, 0)) (barCell (sh 0 c)) ∗ cellInv ER (exch SV) (K (sh 1 c, 0)) (barCell (sh 1 c)) ∗ cellInv ER (exch SV) (K (sh 2 c, 0)) (barCell (sh 2 c))
    ∗ cellInv ER (exch SV) (K (sh 0 c, 6)) (recvCell 2 (sh 0 c)) ∗ cellInv ER (exch SV) (K (sh 1 c, 5)) (recvCell 1 (sh 1 c)) ∗ cellInv ER (exch SV) (K (sh 2 c, 4)) (recvCell 0 (sh 2 c)))

instance invs_persistent (c : Dev nD) : BI.Persistent (invs SV K c) := by unfold invs; infer_instance

/-- Its marks: the barriers it signals are at round 0, and so are its own send and receive cells. -/
def marks (c : Dev nD) : sProp 𝕄 :=
  iprop(reached ER (barCell (sh 0 c)) 0 ∗ reached ER (barCell (sh 1 c)) 0 ∗ reached ER (barCell (sh 2 c)) 0
    ∗ reached ER (sendCell 0 c) 0 ∗ reached ER (sendCell 1 c) 0 ∗ reached ER (sendCell 2 c) 0
    ∗ reached ER (recvCell 0 c) 0 ∗ reached ER (recvCell 1 c) 0 ∗ reached ER (recvCell 2 c) 0)

instance marks_persistent (c : Dev nD) : BI.Persistent (marks (F := F) c) := by unfold marks; infer_instance

/-- Its positions at its seven cells. -/
def places (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- The duties it pays: one at each other device's barrier, its own send cells', the receive cells' it sends to. -/
def duesTok (c : Dev nD) : sProp 𝕄 :=
  iprop(dutyTok ER (barCell (sh 0 c)) 0 (0 : Fin 3) ∗ dutyTok ER (barCell (sh 1 c)) 0 (1 : Fin 3) ∗ dutyTok ER (barCell (sh 2 c)) 0 (2 : Fin 3)
    ∗ dutyTok ER (sendCell 0 c) 0 (0 : Fin 3) ∗ dutyTok ER (sendCell 1 c) 0 (0 : Fin 3) ∗ dutyTok ER (sendCell 2 c) 0 (0 : Fin 3)
    ∗ dutyTok ER (recvCell 2 (sh 0 c)) 0 (0 : Fin 3) ∗ dutyTok ER (recvCell 1 (sh 1 c)) 0 (0 : Fin 3) ∗ dutyTok ER (recvCell 0 (sh 2 c)) 0 (0 : Fin 3))

/-- What the others will pay it. -/
def creds (c : Dev nD) : sProp 𝕄 :=
  iprop(cred (tallyAt (barCell c) true 3) ∗ cred (tallyAt (recvCell 0 c) true N) ∗ cred (tallyAt (recvCell 1 c) true N) ∗ cred (tallyAt (recvCell 2 c) true N))

end Body

end Cert.Moe

end
-- ==== Proof.Values.lean ====
/-
# What one device computes, as functions of its blocks

The device's blocks are `X` (all the tokens), `RW` (the router's weights), `RI` (the experts chosen), `EW` (its eight
experts' weights), `SW` (the shared weights). From them: the assignment matrix `asg` (token by slot), the experts' rows
`rowsY` (slot by feature), the dispatch matrix `disp` (token by row of its block's packed rows), the packed rows
`packed j` it makes for block `j`, and, from the packed rows `R` it receives, its block of the result `res`.
-/
module

public import proofs.«01_k».proof.Proof.Gen.KernelIdeal
public import proofs.«01_k».proof.Proof.Gen.KernelIdeal.Skeleton
public import Idealize.ShloMosaic.Lib.Pointwise.Index

@[expose] public section

noncomputable section

namespace Cert.Moe

open Cert.KernelIdeal Cert.KernelIdeal.Gen

open Idealize.ShloMosaic

variable {F : FTy → Type} [FloatOps F]

/-- The device's number as the program computes it. -/
abbrev me (c : Dev nD) : BitVec 32 := Scalar.remsi (Scalar.divsi c.word 1#32) 4#32

/-- The probability of the chosen expert, per token. -/
def prob (X : Vec F S2048x1024 .f32) (RW : Vec F S1024x32 .f32) (RI : Vec F S2048x1 .i32) : FVec F S2048x1 .f32 := k0_pay3 (k0_pay1 X) RW RI
/-- Which of the device's experts each token chose, as zeros and ones. -/
def onehot (c : Dev nD) (RI : Vec F S2048x1 .i32) : FVec F S2048x8 .f32 := k0_pay4 (me c) RI
/-- Its running count down the tokens. -/
def counts (c : Dev nD) (RI : Vec F S2048x1 .i32) : FVec F S2048x8 .f32 := k0_pay8 (k0_pay5 (me c) RI) k0_pay6 (k0_pay7 (me c) RI)
/-- The assignment matrix, before its cast. -/
def asg₀ (c : Dev nD) (RI : Vec F S2048x1 .i32) : FVec F S2048x1024 .f32 :=
  k0_pay9 (me c) (k0_pay2 RI) (onehot c RI) (k0_pay5 (me c) RI) k0_pay6 (k0_pay7 (me c) RI)
/-- The assignment matrix: token by slot. -/
def asg (c : Dev nD) (RI : Vec F S2048x1 .i32) : Vec F S2048x1024 .f32 := k0_pay10 (asg₀ c RI)
/-- The tokens in their slots. -/
def slotX (c : Dev nD) (X : Vec F S2048x1024 .f32) (RI : Vec F S2048x1 .i32) : FVec F S1024x1024 .f32 := k0_pay11 (asg₀ c RI) X
/-- The probabilities in their slots. -/
def slotP (c : Dev nD) (X : Vec F S2048x1024 .f32) (RW : Vec F S1024x32 .f32) (RI : Vec F S2048x1 .i32) : FVec F S1024x1 .f32 := k0_pay12 (prob X RW RI) (asg₀ c RI)

/-- Expert `e`'s weights. -/
def wgt (EW : Vec F S8x1024x1024 .f32) (e : Fin 8) : Vec F S1024x1024 .f32 := fun i => EW (ix3 e (i 0) (i 1))
theorem casts_wgt : S1024x1024.ShapeCasts S1x1024x1024 := by decide
/-- The same with a leading axis, as the weight buffer is read. -/
def wgt₁ (EW : Vec F S8x1024x1024 .f32) (e : Fin 8) : Vec F S1x1024x1024 .f32 := shapeCast S1x1024x1024 (wgt EW e) casts_wgt

/-- Expert `e`'s 128 rows. -/
def rowsE (c : Dev nD) (X : Vec F S2048x1024 .f32) (RW : Vec F S1024x32 .f32) (RI : Vec F S2048x1 .i32) (EW : Vec F S8x1024x1024 .f32) :
    Fin 8 → FVec F S128x1024 .f32 := fun
  | 0 => k0_pay13 (prob X RW RI) (asg₀ c RI) X (wgt₁ EW 0)
  | 1 => k0_pay14 (slotX c X RI) (slotP c X RW RI) (wgt₁ EW 1)
  | 2 => k0_pay15 (slotX c X RI) (slotP c X RW RI) (wgt₁ EW 2)
  | 3 => k0_pay18 (k0_pay16 (slotP c X RW RI)) (k0_pay17 (slotX c X RI)) (wgt₁ EW 3)
  | 4 => k0_pay19 (slotX c X RI) (slotP c X RW RI) (wgt₁ EW 4)
  | 5 => k0_pay20 (slotX c X RI) (slotP c X RW RI) (wgt₁ EW 5)
  | 6 => k0_pay21 (slotX c X RI) (slotP c X RW RI) (wgt₁ EW 6)
  | 7 => k0_pay22 (slotX c X RI) (slotP c X RW RI) (wgt₁ EW 7)
/-- All eight experts' rows. -/
def rowsY (c : Dev nD) (X : Vec F S2048x1024 .f32) (RW : Vec F S1024x32 .f32) (RI : Vec F S2048x1 .i32) (EW : Vec F S8x1024x1024 .f32) : Vec F S1024x1024 .f32 :=
  fun i => rowsE c X RW RI EW ⟨(i 0).val / 128, Nat.div_lt_of_lt_mul (i 0).isLt⟩ (ix2 ⟨(i 0).val % 128, Nat.mod_lt _ (by decide)⟩ (i 1))

/-- The dispatch matrix: token by packed row. -/
def disp (c : Dev nD) (RI : Vec F S2048x1 .i32) : Vec F S2048x192 .f32 := k0_pay23 (onehot c RI) (counts c RI)

theorem blk_lt (j : Fin 4) (r : Fin 512) : 512 * j.val + r.val < 2048 := by omega
/-- Block `j`'s 512 rows. -/
def blk {n : ℕ} {e : EltTy} (j : Fin 4) (v : (⟨2, ![2048, n]⟩ : Shape).Idx → Elt F e) : (⟨2, ![512, n]⟩ : Shape).Idx → Elt F e :=
  fun i => v (ix2 ⟨512 * j.val + (i 0).val, blk_lt j (i 0)⟩ (i 1))

/-- The packed rows the device makes for block `j`. -/
def packed (c : Dev nD) (j : Fin 4) (X : Vec F S2048x1024 .f32) (RW : Vec F S1024x32 .f32) (RI : Vec F S2048x1 .i32) (EW : Vec F S8x1024x1024 .f32) : Vec F S192x1024 .f32 :=
  shapeCast S192x1024 (k0_pay26 (F := F) (blk (n := 192) j (disp c RI)) (blk (n := 1024) j (asg c RI)) (rowsY c X RW RI EW)) shapeCasts_S1x192x1024_S192x1024

/-- The owners of the block's tokens, as zeros and ones, and how many earlier tokens of the block each shares its owner with. -/
def owner (c : Dev nD) (RI : Vec F S2048x1 .i32) : FVec F S512x4 .f32 := k0_pay24 (blk (n := 1) c RI)
def before (c : Dev nD) (RI : Vec F S2048x1 .i32) : FVec F S512x4 .f32 := k0_pay25 (blk (n := 1) c RI)

abbrev lanes4 : IVec S512x4 32 := iota .tc S512x4 32 [1] iota_S512x4_d1_w32
abbrev lanes192 : IVec S512x192 32 := iota .tc S512x192 32 [1] iota_S512x192_d1_w32

/-- The result from the device's own experts and the shared weights, -/
def res₀ (c : Dev nD) (X : Vec F S2048x1024 .f32) (RW : Vec F S1024x32 .f32) (RI : Vec F S2048x1 .i32) (EW : Vec F S8x1024x1024 .f32) (SW : Vec F S1024x1024 .f32) : Vec F S512x1024 .f32 :=
  k0_pay30 (blk (n := 1024) c (asg c RI)) (rowsY c X RW RI EW) (blk (n := 1024) c X) SW
/-- then with what came in slot 2, -/
def res₁ (c : Dev nD) (X : Vec F S2048x1024 .f32) (RW : Vec F S1024x32 .f32) (RI : Vec F S2048x1 .i32) (EW : Vec F S8x1024x1024 .f32) (SW : Vec F S1024x1024 .f32)
    (R : Fin 3 → Vec F S192x1024 .f32) : Vec F S512x1024 .f32 :=
  k0_pay34 lanes192 (k0_pay32 (me c) lanes4 (owner c RI)) (k0_pay33 (me c) lanes4 (before c RI)) (res₀ c X RW RI EW SW)
    (shapeCast S1x192x1024 (R 2) shapeCasts_S192x1024_S1x192x1024)
/-- in slot 1, -/
def res₂ (c : Dev nD) (X : Vec F S2048x1024 .f32) (RW : Vec F S1024x32 .f32) (RI : Vec F S2048x1 .i32) (EW : Vec F S8x1024x1024 .f32) (SW : Vec F S1024x1024 .f32)
    (R : Fin 3 → Vec F S192x1024 .f32) : Vec F S512x1024 .f32 :=
  k0_pay36 (owner c RI) (before c RI) lanes192 (k0_pay35 (me c) lanes4) (res₁ c X RW RI EW SW R)
    (shapeCast S1x192x1024 (R 1) shapeCasts_S192x1024_S1x192x1024)
/-- and in slot 0. -/
def res (c : Dev nD) (X : Vec F S2048x1024 .f32) (RW : Vec F S1024x32 .f32) (RI : Vec F S2048x1 .i32) (EW : Vec F S8x1024x1024 .f32) (SW : Vec F S1024x1024 .f32)
    (R : Fin 3 → Vec F S192x1024 .f32) : Vec F S512x1024 .f32 :=
  k0_pay37 lanes4 (owner c RI) (before c RI) lanes192 (Scalar.addi (me c) 0#32) 1#32 (res₂ c X RW RI EW SW R)
    (shapeCast S1x192x1024 (R 0) shapeCasts_S192x1024_S1x192x1024)

end Cert.Moe

end
-- ==== Proof.Contents.lean ====
/-
# The buffers' contents, read back as values

Each buffer the body fills is restated at the value it holds (`Values`), and each load of it as a value.
-/
module

public import proofs.«01_k».proof.Proof.Stage
public import proofs.«01_k».proof.Proof.Values
public import Idealize.ShloMosaic.Lib.VecWindow
public import Idealize.ShloMosaic.Lib.ValueLayout

@[expose] public section

noncomputable section

namespace Cert.Moe

open Cert.KernelIdeal Cert.KernelIdeal.Gen

open Idealize.ShloMosaic
open Idealize.ShloMosaic.TcCoe

variable {F : FTy → Type} [FloatOps F]

/-- Every index of a rank-2 array is the pair of its coordinates. -/
theorem at2 {n m : ℕ} (i : (⟨2, ![n, m]⟩ : Shape).Idx) : i = ix2 (i 0) (i 1) := funext fun a => by fin_cases a <;> rfl

/-! ## Whole buffers -/

section Whole
variable (b : Ref sig .tc)

/-- Loaded whole, a buffer reads its contents. -/
theorem ld_all (f : b.ty.Contents (Elt F)) {off : Fin b.ty.shape.rank → ℕ} (inb : ∀ a, off a + b.ty.shape.size a ≤ b.ty.shape.size a) :
    (Memref.whole b).view.readAt (Elt F) (Rect.unit off b.ty.shape.size inb).toLoadRect f = f :=
  (View.readAt_full (Memref.whole b).view f inb).trans (View.read_whole b f)

/-- Stored whole, it holds the value stored, whatever came before. -/
theorem st_all (f : b.ty.Contents (Elt F)) {off : Fin b.ty.shape.rank → ℕ} (inb : ∀ a, off a + b.ty.shape.size a ≤ b.ty.shape.size a)
    (w : b.ty.shape.Idx → Elt F b.ty.elt) (T : List (View.Piece (Elt F) b.ty.shape b.ty.elt)) :
    (Memref.whole b).view.writes (Elt F) f (⟨Rect.unit off b.ty.shape.size inb, w⟩ :: T) = w :=
  (View.read_whole b _).symm.trans (View.read_writes_full (Memref.whole b).view f inb w T)

end Whole

/-! The same at each buffer the body loads whole. -/

theorem ld_x (f : Vec F S2048x1024 .f32) :
    (Memref.whole cc0_stg0_0 : Memref sig .tc .vmem S2048x1024 .f32).view.readAt (Elt F) (Rect.unit (s := S2048x1024) ![0, 0] S2048x1024.size inb_S2048x1024_S2048x1024_0_0).toLoadRect f = f :=
  ld_all cc0_stg0_0 f _
theorem ld_rw (f : Vec F S1024x32 .f32) :
    (Memref.whole cc0_stg1_0 : Memref sig .tc .vmem S1024x32 .f32).view.readAt (Elt F) (Rect.unit (s := S1024x32) ![0, 0] S1024x32.size inb_S1024x32_S1024x32_0_0).toLoadRect f = f :=
  ld_all cc0_stg1_0 f _
theorem ld_ri (f : Vec F S2048x1 .i32) :
    (Memref.whole cc0_stg2_0 : Memref sig .tc .vmem S2048x1 .i32).view.readAt (Elt F) (Rect.unit (s := S2048x1) ![0, 0] S2048x1.size inb_S2048x1_S2048x1_0_0).toLoadRect f = f :=
  ld_all cc0_stg2_0 f _
theorem ld_sw (f : Vec F S1024x1024 .f32) :
    (Memref.whole cc0_stg3_0 : Memref sig .tc .vmem S1024x1024 .f32).view.readAt (Elt F) (Rect.unit (s := S1024x1024) ![0, 0] S1024x1024.size inb_S1024x1024_S1024x1024_0_0).toLoadRect f = f :=
  ld_all cc0_stg3_0 f _
theorem ld_y (f : Vec F S1024x1024 .f32) :
    (Memref.whole cc0_scratch2 : Memref sig .tc .vmem S1024x1024 .f32).view.readAt (Elt F) (Rect.unit (s := S1024x1024) ![0, 0] S1024x1024.size inb_S1024x1024_S1024x1024_0_0).toLoadRect f = f :=
  ld_all cc0_scratch2 f _
theorem ld_out (f : Vec F S512x1024 .f32) :
    (Memref.whole cc0_stg4_0 : Memref sig .tc .vmem S512x1024 .f32).view.readAt (Elt F) (Rect.unit (s := S512x1024) ![0, 0] S512x1024.size inb_S512x1024_S512x1024_0_0).toLoadRect f = f :=
  ld_all cc0_stg4_0 f _
theorem st_out (f w : Vec F S512x1024 .f32) (T : List (View.Piece (Elt F) S512x1024 .f32)) :
    (Memref.whole cc0_stg4_0 : Memref sig .tc .vmem S512x1024 .f32).view.writes (Elt F) f (⟨Rect.unit (s := S512x1024) ![0, 0] S512x1024.size inb_S512x1024_S512x1024_0_0, w⟩ :: T) = w :=
  st_all cc0_stg4_0 f _ w T

theorem rd_out (w : Vec F S512x1024 .f32) (T : List (View.Piece (Elt F) S512x1024 .f32)) :
    (Memref.whole cc0_stg4_0 : Memref sig .tc .vmem S512x1024 .f32).view.readCov (⟨Rect.unit (s := S512x1024) ![0, 0] S512x1024.size inb_S512x1024_S512x1024_0_0, w⟩ :: T)
      (Rect.unit (s := S512x1024) ![0, 0] S512x1024.size inb_S512x1024_S512x1024_0_0).toLoadRect = w := by
  unfold View.readCov; rw [st_out, ld_out]

/-! ## A device's block of rows -/

theorem ld_rows {n : ℕ} {e : EltTy} {sp : Space} (v : View sig .tc sp ⟨2, ![2048, n]⟩ e) (f : v.ty.Contents (Elt F)) (j : Fin 4)
    {off : Fin 2 → ℕ} (h : off = ![512 * j.val, 0]) (inb : ∀ a, off a + (![512, n] : Fin 2 → ℕ) a ≤ (⟨2, ![2048, n]⟩ : Shape).size a) :
    v.readAt (Elt F) (Rect.unit (s := ⟨2, ![2048, n]⟩) off ![512, n] inb).toLoadRect f = blk j (v.read (Elt F) f) := by
  subst h
  funext y
  refine congrArg (v.read (Elt F) f) (funext fun a => Fin.ext ?_)
  fin_cases a
  · show 512 * j.val + 1 * (y 0).val = 512 * j.val + (y 0).val
    omega
  · show 0 + 1 * (y 1).val = (y 1).val
    omega

/-! ## The weight buffer -/

theorem ld_w0 (f : (Memref.whole cc0_scratch0 : Memref sig .tc _ _ _).view.ty.Contents (Elt F)) :
    (Memref.whole cc0_scratch0 : Memref sig .tc _ _ _).view.readAt (Elt F) (Rect.unit (s := S2x1024x1024) ![0, 0, 0] S1x1024x1024.size inb_S2x1024x1024_S1x1024x1024_0_0_0).toLoadRect f
      = shapeCast S1x1024x1024 (wb0.view.read (Elt F) f) casts_wgt :=
  (shapeCast_shapeCast _ shapeCasts_S1x1024x1024_S1024x1024 casts_wgt).symm
theorem ld_w1 (f : (Memref.whole cc0_scratch0 : Memref sig .tc _ _ _).view.ty.Contents (Elt F)) :
    (Memref.whole cc0_scratch0 : Memref sig .tc _ _ _).view.readAt (Elt F) (Rect.unit (s := S2x1024x1024) ![1, 0, 0] S1x1024x1024.size inb_S2x1024x1024_S1x1024x1024_1_0_0).toLoadRect f
      = shapeCast S1x1024x1024 (wb1.view.read (Elt F) f) casts_wgt :=
  (shapeCast_shapeCast _ shapeCasts_S1x1024x1024_S1024x1024 casts_wgt).symm

/-- A slot over which a whole copy landed reads the copy. -/
theorem rd_top (v : View sig .tc .vmem S1024x1024 .f32) (f : v.ty.Contents (Elt F)) (w : S1024x1024.Idx → Elt F .f32)
    (T : List (View.Piece (Elt F) S1024x1024 .f32)) : v.read (Elt F) (v.writes (Elt F) f (⟨Rect.whole S1024x1024, w⟩ :: T)) = w := by
  funext y
  have h := View.read_writes_cons_emb v f (Rect.whole S1024x1024) w T y
  rwa [Rect.emb_whole_apply] at h

/-- The copy's payload: one expert's weights. -/
theorem rd_ew (EW : Vec F S8x1024x1024 .f32) (e : Fin 8) {off : Fin 3 → ℕ} (h : off = ![e.val, 0, 0])
    (inb : ∀ a, off a + (![1, 1024, 1024] : Fin 3 → ℕ) a ≤ S8x1024x1024.size a) (hs : ∀ a, (Rect.unit (s := S8x1024x1024) off ![1, 1024, 1024] inb).stride a = 1)
    (hq : (Rect.unit (s := S8x1024x1024) off ![1, 1024, 1024] inb).shape.Squeezes S1024x1024) :
    View.read (Elt F) (((Memref.whole main_arg3 : Memref sig .tc _ _ _).slice (Rect.unit (s := S8x1024x1024) off ![1, 1024, 1024] inb) hs).squeeze S1024x1024 hq).view EW = wgt EW e := by
  subst h
  show shapeCast S1024x1024 ((Memref.whole main_arg3 : Memref sig .tc _ _ _).view.readAt (Elt F) (Rect.unit (s := S8x1024x1024) ![e.val, 0, 0] ![1, 1024, 1024] inb).toLoadRect EW) shapeCasts_S1x1024x1024_S1024x1024 = _
  funext i
  obtain ⟨a, b, rfl⟩ : ∃ a b, i = ix2 a b := ⟨_, _, at2 i⟩
  refine (ValueIdx.shapeCast_1ab_ab_apply _ _ a b).trans (congrArg EW (funext fun k => Fin.ext ?_))
  fin_cases k
  · show e.val + 1 * 0 = e.val
    omega
  · show 0 + 1 * a.val = a.val
    omega
  · show 0 + 1 * b.val = b.val
    omega

/-! ## The experts' rows -/

/-- Eight tiles of 128 rows, each agreeing with `G` where it lies, cover the array and leave `G`. -/
theorem rd_tiles {sp : Space} (v : View sig .tc sp S1024x1024 .f32) (g : v.ty.Contents (Elt F)) (G : S1024x1024.Idx → Elt F .f32)
    (p : Fin 8 → S128x1024.Idx → Elt F .f32) (hp : ∀ (e : Fin 8) (x : S128x1024.Idx) (i : S1024x1024.Idx), (i 0).val = 128 * e.val + (x 0).val → (i 1).val = (x 1).val → p e x = G i) :
    v.read (Elt F) (v.writes (Elt F) g
      [⟨Rect.unit (s := S1024x1024) ![896, 0] S128x1024.size inb_S1024x1024_S128x1024_896_0, p 7⟩,
       ⟨Rect.unit (s := S1024x1024) ![768, 0] S128x1024.size inb_S1024x1024_S128x1024_768_0, p 6⟩,
       ⟨Rect.unit (s := S1024x1024) ![640, 0] S128x1024.size inb_S1024x1024_S128x1024_640_0, p 5⟩,
       ⟨Rect.unit (s := S1024x1024) ![512, 0] S128x1024.size inb_S1024x1024_S128x1024_512_0, p 4⟩,
       ⟨Rect.unit (s := S1024x1024) ![384, 0] S128x1024.size inb_S1024x1024_S128x1024_384_0, p 3⟩,
       ⟨Rect.unit (s := S1024x1024) ![256, 0] S128x1024.size inb_S1024x1024_S128x1024_256_0, p 2⟩,
       ⟨Rect.unit (s := S1024x1024) ![128, 0] S128x1024.size inb_S1024x1024_S128x1024_128_0, p 1⟩,
       ⟨Rect.unit (s := S1024x1024) ![0, 0] S128x1024.size inb_S1024x1024_S128x1024_0_0, p 0⟩]) = G := by
  have key (e : Fin 8) (o : ℕ) (ho : o = 128 * e.val) (inb : ∀ a, (![o, 0] : Fin 2 → ℕ) a + S128x1024.size a ≤ S1024x1024.size a)
      (x : (Rect.unit (s := S1024x1024) ![o, 0] S128x1024.size inb).shape.Idx) :
      p e x = G ((Rect.unit (s := S1024x1024) ![o, 0] S128x1024.size inb).emb x) := by
    subst ho
    refine hp e x _ ?_ ?_
    · show 128 * e.val + 1 * (x 0).val = _
      omega
    · show 0 + 1 * (x 1).val = _
      omega
  have mem (y : S1024x1024.Idx) (o : ℕ) (inb : ∀ a, (![o, 0] : Fin 2 → ℕ) a + S128x1024.size a ≤ S1024x1024.size a) (h : o ≤ (y 0).val ∧ (y 0).val < o + 128) :
      y ∈ (Rect.unit (s := S1024x1024) ![o, 0] S128x1024.size inb).set := Rect.mem_set_unit.mpr fun a => by
    have h1 : (y 1).val < 1024 := (y 1).isLt
    fin_cases a
    · exact h
    · exact ⟨Nat.zero_le _, by show (y 1).val < 0 + 1024; omega⟩
  funext y
  refine View.read_writes_apply_of_pieces v g G _ ?_ y ?_
  · exact List.forall_mem_cons.mpr ⟨key 7 896 rfl inb_S1024x1024_S128x1024_896_0, List.forall_mem_cons.mpr ⟨key 6 768 rfl inb_S1024x1024_S128x1024_768_0, List.forall_mem_cons.mpr ⟨key 5 640 rfl inb_S1024x1024_S128x1024_640_0,
      List.forall_mem_cons.mpr ⟨key 4 512 rfl inb_S1024x1024_S128x1024_512_0, List.forall_mem_cons.mpr ⟨key 3 384 rfl inb_S1024x1024_S128x1024_384_0, List.forall_mem_cons.mpr ⟨key 2 256 rfl inb_S1024x1024_S128x1024_256_0,
      List.forall_mem_cons.mpr ⟨key 1 128 rfl inb_S1024x1024_S128x1024_128_0, List.forall_mem_cons.mpr ⟨key 0 0 rfl inb_S1024x1024_S128x1024_0_0, fun _ h => absurd h List.not_mem_nil⟩⟩⟩⟩⟩⟩⟩⟩
  · have h0 : (y 0).val < 1024 := (y 0).isLt
    simp only [List.exists_mem_cons_iff]
    rcases (by omega : ((y 0).val < 128 ∨ 128 ≤ (y 0).val ∧ (y 0).val < 256 ∨ 256 ≤ (y 0).val ∧ (y 0).val < 384 ∨ 384 ≤ (y 0).val ∧ (y 0).val < 512
        ∨ 512 ≤ (y 0).val ∧ (y 0).val < 640 ∨ 640 ≤ (y 0).val ∧ (y 0).val < 768 ∨ 768 ≤ (y 0).val ∧ (y 0).val < 896 ∨ 896 ≤ (y 0).val ∧ (y 0).val < 1024)) with h | h | h | h | h | h | h | h
    · exact .inr (.inr (.inr (.inr (.inr (.inr (.inr (.inl (mem y 0 _ ⟨Nat.zero_le _, h⟩))))))))
    · exact .inr (.inr (.inr (.inr (.inr (.inr (.inl (mem y 128 _ h)))))))
    · exact .inr (.inr (.inr (.inr (.inr (.inl (mem y 256 _ h))))))
    · exact .inr (.inr (.inr (.inr (.inl (mem y 384 _ h)))))
    · exact .inr (.inr (.inr (.inl (mem y 512 _ h))))
    · exact .inr (.inr (.inl (mem y 640 _ h)))
    · exact .inr (.inl (mem y 768 _ h))
    · exact .inl (mem y 896 _ h)

/-- The eight stores of 128 rows each leave the experts' rows. -/
theorem rowsY_tile (c : Dev nD) (X : Vec F S2048x1024 .f32) (RW : Vec F S1024x32 .f32) (RI : Vec F S2048x1 .i32) (EW : Vec F S8x1024x1024 .f32)
    (e : Fin 8) (x : S128x1024.Idx) (i : S1024x1024.Idx) (h0 : (i 0).val = 128 * e.val + (x 0).val) (h1 : (i 1).val = (x 1).val) :
    rowsE c X RW RI EW e x = rowsY c X RW RI EW i := by
  have hx : (x 0).val < 128 := (x 0).isLt
  unfold rowsY
  have he : (⟨(i 0).val / 128, Nat.div_lt_of_lt_mul (i 0).isLt⟩ : Fin 8) = e := Fin.ext (by show _ / 128 = _; omega)
  rw [he]
  refine congrArg _ (funext fun a => Fin.ext ?_)
  fin_cases a
  · show (x 0).val = (i 0).val % 128
    omega
  · exact h1.symm

theorem st_rows (c : Dev nD) (X : Vec F S2048x1024 .f32) (RW : Vec F S1024x32 .f32) (RI : Vec F S2048x1 .i32) (EW : Vec F S8x1024x1024 .f32)
    (g : (cc0_scratch2 : Ref sig .tc).ty.Contents (Elt F)) :
    (Memref.whole cc0_scratch2 : Memref sig .tc .vmem S1024x1024 .f32).view.writes (Elt F) g
      [⟨Rect.unit (s := S1024x1024) ![896, 0] S128x1024.size inb_S1024x1024_S128x1024_896_0, rowsE c X RW RI EW 7⟩,
       ⟨Rect.unit (s := S1024x1024) ![768, 0] S128x1024.size inb_S1024x1024_S128x1024_768_0, rowsE c X RW RI EW 6⟩,
       ⟨Rect.unit (s := S1024x1024) ![640, 0] S128x1024.size inb_S1024x1024_S128x1024_640_0, rowsE c X RW RI EW 5⟩,
       ⟨Rect.unit (s := S1024x1024) ![512, 0] S128x1024.size inb_S1024x1024_S128x1024_512_0, rowsE c X RW RI EW 4⟩,
       ⟨Rect.unit (s := S1024x1024) ![384, 0] S128x1024.size inb_S1024x1024_S128x1024_384_0, rowsE c X RW RI EW 3⟩,
       ⟨Rect.unit (s := S1024x1024) ![256, 0] S128x1024.size inb_S1024x1024_S128x1024_256_0, rowsE c X RW RI EW 2⟩,
       ⟨Rect.unit (s := S1024x1024) ![128, 0] S128x1024.size inb_S1024x1024_S128x1024_128_0, rowsE c X RW RI EW 1⟩,
       ⟨Rect.unit (s := S1024x1024) ![0, 0] S128x1024.size inb_S1024x1024_S128x1024_0_0, rowsE c X RW RI EW 0⟩] = rowsY c X RW RI EW := by
  refine (View.read_whole cc0_scratch2 _).symm.trans ?_
  exact rd_tiles (Memref.whole cc0_scratch2 : Memref sig .tc .vmem S1024x1024 .f32).view g (rowsY c X RW RI EW) (rowsE c X RW RI EW) (rowsY_tile c X RW RI EW)

/-! ## The slots of the send and receive buffers -/

theorem ld_slot {sp : Space} (M : Memref sig .tc sp S3x192x1024 .f32) {off : Fin 3 → ℕ} (inb : ∀ a, off a + S1x192x1024.size a ≤ S3x192x1024.size a)
    (hs : ∀ a, (Rect.unit (s := S3x192x1024) off S1x192x1024.size inb).stride a = 1)
    (hq : (Rect.unit (s := S3x192x1024) off S1x192x1024.size inb).shape.Squeezes S192x1024) (f : M.view.ty.Contents (Elt F)) :
    M.view.readAt (Elt F) (Rect.unit (s := S3x192x1024) off S1x192x1024.size inb).toLoadRect f
      = shapeCast S1x192x1024 (((M.slice (Rect.unit (s := S3x192x1024) off S1x192x1024.size inb) hs).squeeze S192x1024 hq).view.read (Elt F) f) shapeCasts_S192x1024_S1x192x1024 :=
  (shapeCast_shapeCast _ shapeCasts_S1x192x1024_S192x1024 shapeCasts_S192x1024_S1x192x1024).symm

/-- A slot stored through the whole buffer reads, as a matrix, what was stored. -/
theorem st_slot {sp : Space} (M : Memref sig .tc sp S3x192x1024 .f32) {off : Fin 3 → ℕ} (inb : ∀ a, off a + S1x192x1024.size a ≤ S3x192x1024.size a)
    (hs : ∀ a, (Rect.unit (s := S3x192x1024) off S1x192x1024.size inb).stride a = 1)
    (hq : (Rect.unit (s := S3x192x1024) off S1x192x1024.size inb).shape.Squeezes S192x1024) (f : M.view.ty.Contents (Elt F))
    (w : S1x192x1024.Idx → Elt F .f32) (T : List (View.Piece (Elt F) S3x192x1024 .f32)) :
    ((M.slice (Rect.unit (s := S3x192x1024) off S1x192x1024.size inb) hs).squeeze S192x1024 hq).view.read (Elt F)
        (M.view.writes (Elt F) f (⟨Rect.unit (s := S3x192x1024) off S1x192x1024.size inb, w⟩ :: T))
      = shapeCast S192x1024 w shapeCasts_S1x192x1024_S192x1024 := by
  show shapeCast S192x1024 (M.view.readAt (Elt F) (Rect.unit (s := S3x192x1024) off S1x192x1024.size inb).toLoadRect _) shapeCasts_S1x192x1024_S192x1024 = _
  refine congrArg (fun u => shapeCast S192x1024 u shapeCasts_S1x192x1024_S192x1024) (funext fun y => ?_)
  exact View.read_writes_cons_emb M.view f (Rect.unit (s := S3x192x1024) off S1x192x1024.size inb) w T y

end Cert.Moe

end
-- ==== Proof.Send.lean ====
/-
# The transfers

The rule of each of the three transfers of a packed block, at the exchange's schedule.
-/
module

public import proofs.«01_k».proof.Proof.Contents

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

theorem send_at0 (c : Dev nD) (f : Buf (Elt F) (send0.view.loc (c : Thread nD τ))) :
    (sendPts 0 c f : sProp 𝕄) = (send0.view.loc (c : Thread nD τ) ↦[send0.view.set]{fullShare} f) := rfl
theorem send_at1 (c : Dev nD) (f : Buf (Elt F) (send1.view.loc (c : Thread nD τ))) :
    (sendPts 1 c f : sProp 𝕄) = (send1.view.loc (c : Thread nD τ) ↦[send1.view.set]{fullShare} f) := rfl
theorem send_at2 (c : Dev nD) (f : Buf (Elt F) (send2.view.loc (c : Thread nD τ))) :
    (sendPts 2 c f : sProp 𝕄) = (send2.view.loc (c : Thread nD τ) ↦[send2.view.set]{fullShare} f) := rfl
theorem recv_at0 (c : Dev nD) (f : Buf (Elt F) (recv0.view.loc (c : Thread nD τ))) :
    (recvPts 0 c f : sProp 𝕄) = (recv0.view.loc (c : Thread nD τ) ↦[recv0.view.set]{fullShare} f) := rfl
theorem recv_at1 (c : Dev nD) (f : Buf (Elt F) (recv1.view.loc (c : Thread nD τ))) :
    (recvPts 1 c f : sProp 𝕄) = (recv1.view.loc (c : Thread nD τ) ↦[recv1.view.set]{fullShare} f) := rfl
theorem recv_at2 (c : Dev nD) (f : Buf (Elt F) (recv2.view.loc (c : Thread nD τ))) :
    (recvPts 2 c f : sProp 𝕄) = (recv2.view.loc (c : Thread nD τ) ↦[recv2.view.set]{fullShare} f) := rfl

variable (SV : Dev nD → Fin 3 → Vec F S192x1024 .f32) (K : Dev nD × Fin 7 → ℕ)

/-- A landed block is the payload of the slot's receive semaphore. -/
theorem land (j : Fin 3) (c : Dev nD) (fn : Buf (Elt F) ((recvM (rev j)).view.loc (sh j c : Thread nD τ))) (fs : Buf (Elt F) ((sendM j).view.loc (c : Thread nD τ)))
    (h : (sendM j).view.read (Elt F) fs = SV c j) :
    (((recvM (rev j)).view.loc (sh j c : Thread nD τ) ↦[(recvM (rev j)).view.set]{fullShare}
        ((recvM (rev j)).view.write (Elt F) fn ((sendM j).view.read (Elt F) fs) Finset.univ)) : sProp 𝕄)
      ⊢ (exch SV).payload (recvCell (rev j) (sh j c)) 0 0 := by
  rw [payload_recv, h]
  unfold recvPay recvPts
  rw [rev_sh, show rev (rev j) = j from Fin.rev_rev j]
  exact pointsTo_rep_of_read (sh j c : Thread nD τ) (recvM (rev j)) _ fullShare (SV c j) (View.read_write_univ _ _)

/-- A departed block's slot is the payload of its send semaphore. -/
theorem depart (j : Fin 3) (c : Dev nD) (fs : Buf (Elt F) ((sendM j).view.loc (c : Thread nD τ))) (h : (sendM j).view.read (Elt F) fs = SV c j) :
    (((sendM j).view.loc (c : Thread nD τ) ↦[(sendM j).view.set]{fullShare} fs) : sProp 𝕄) ⊢ (exch SV).payload (sendCell j c) 0 0 := by
  rw [payload_send]
  unfold sendPay sendPts
  exact pointsTo_rep_of_read (c : Thread nD τ) (sendM j) _ fullShare (SV c j) h

/-- Transfer 0, to the device after. -/
theorem wp_send0 (c n : Dev nD) (hn : n = sh 0 c) {hsc : (recv2 : Memref sig (Dev.tc n : Thread nD τ).2.kind .vmem S192x1024 .f32).view.ref.isScScratch = false}
    {hsrc : (send0 : Memref sig .tc .vmem S192x1024 .f32).view.WordExact} {hdst : (recv2 : Memref sig .tc .vmem S192x1024 .f32).view.WordExact}
    {hsem : DmaTarget.Typed .vmem (.dma recvS2) (.remote (Dev.tc n : Thread nD τ) (recv2 : Memref sig .tc .vmem S192x1024 .f32) (.dma sendS0) hsc)}
    {α : Type} {Q : α → sProp 𝕄} {k : PUnit → Prog (TpuEff nD τ sig (Elt F) Λ₀ .tc) α}
    (fn : Buf (Elt F) (recv2.view.loc (sh 0 c : Thread nD τ))) (fs : Buf (Elt F) (send0.view.loc (c : Thread nD τ))) (O : CellTallies nD τ sig Bool) (W : Waits sig Bool)
    (h : send0.view.read (Elt F) fs = SV c 0) :
    iprop(cellInv ER (exch SV) (K (c, 1)) (sendCell 0 c) ∗ cellInv ER (exch SV) (K (sh 0 c, 6)) (recvCell 2 (sh 0 c))
        ∗ (send0.view.loc (c : Thread nD τ) ↦[send0.view.set]{fullShare} fs) ∗ recvPts 2 (sh 0 c) fn
        ∗ owes (c : Thread nD τ) (O + tallyAt (recvCell 2 (sh 0 c)) true N) W
        ∗ dutyTok ER (sendCell 0 c) 0 (0 : Fin 3) ∗ reached ER (sendCell 0 c) 0
        ∗ dutyTok ER (recvCell 2 (sh 0 c)) 0 (0 : Fin 3) ∗ reached ER (recvCell 2 (sh 0 c)) 0)
      ⊢ iprop(((cred (tallyAt (sendCell 0 c) true N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma send0 (.remote (Dev.tc n : Thread nD τ) recv2 (.dma sendS0) hsc) (.dma recvS2) hsrc hdst hsem) k) Q) := by
  subst hn
  rw [recv_at2]
  exact Rounds.wp_send_pointsTo 𝒱₀ ER (exch SV) (c : Thread nD τ) none (κ₁ := K (c, 1)) (κ₂ := K (sh 0 c, 6))
    (r₁ := 0) (r₂ := 0) (d₁ := (0 : Fin 3)) (d₂ := (0 : Fin 3)) (fd := fn)
    (by rw [duties_send SV c 0]; exact Finset.mem_singleton_self _) (by rw [duties_recv SV (sh 0 c) 2]; exact Finset.mem_singleton_self _)
    true true N rfl (amount_send SV c 0 0) (amount_recv SV (sh 0 c) 2 0) O rfl (W := W)
    (depart SV 0 c fs h) (land SV 0 c fn fs h)

/-- Transfer 1, to the device two after. -/
theorem wp_send1 (c n : Dev nD) (hn : n = sh 1 c) {hsc : (recv1 : Memref sig (Dev.tc n : Thread nD τ).2.kind .vmem S192x1024 .f32).view.ref.isScScratch = false}
    {hsrc : (send1 : Memref sig .tc .vmem S192x1024 .f32).view.WordExact} {hdst : (recv1 : Memref sig .tc .vmem S192x1024 .f32).view.WordExact}
    {hsem : DmaTarget.Typed .vmem (.dma recvS1) (.remote (Dev.tc n : Thread nD τ) (recv1 : Memref sig .tc .vmem S192x1024 .f32) (.dma sendS1) hsc)}
    {α : Type} {Q : α → sProp 𝕄} {k : PUnit → Prog (TpuEff nD τ sig (Elt F) Λ₀ .tc) α}
    (fn : Buf (Elt F) (recv1.view.loc (sh 1 c : Thread nD τ))) (fs : Buf (Elt F) (send1.view.loc (c : Thread nD τ))) (O : CellTallies nD τ sig Bool) (W : Waits sig Bool)
    (h : send1.view.read (Elt F) fs = SV c 1) :
    iprop(cellInv ER (exch SV) (K (c, 2)) (sendCell 1 c) ∗ cellInv ER (exch SV) (K (sh 1 c, 5)) (recvCell 1 (sh 1 c))
        ∗ (send1.view.loc (c : Thread nD τ) ↦[send1.view.set]{fullShare} fs) ∗ recvPts 1 (sh 1 c) fn
        ∗ owes (c : Thread nD τ) (O + tallyAt (recvCell 1 (sh 1 c)) true N) W
        ∗ dutyTok ER (sendCell 1 c) 0 (0 : Fin 3) ∗ reached ER (sendCell 1 c) 0
        ∗ dutyTok ER (recvCell 1 (sh 1 c)) 0 (0 : Fin 3) ∗ reached ER (recvCell 1 (sh 1 c)) 0)
      ⊢ iprop(((cred (tallyAt (sendCell 1 c) true N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma send1 (.remote (Dev.tc n : Thread nD τ) recv1 (.dma sendS1) hsc) (.dma recvS1) hsrc hdst hsem) k) Q) := by
  subst hn
  rw [recv_at1]
  exact Rounds.wp_send_pointsTo 𝒱₀ ER (exch SV) (c : Thread nD τ) none (κ₁ := K (c, 2)) (κ₂ := K (sh 1 c, 5))
    (r₁ := 0) (r₂ := 0) (d₁ := (0 : Fin 3)) (d₂ := (0 : Fin 3)) (fd := fn)
    (by rw [duties_send SV c 1]; exact Finset.mem_singleton_self _) (by rw [duties_recv SV (sh 1 c) 1]; exact Finset.mem_singleton_self _)
    true true N rfl (amount_send SV c 1 0) (amount_recv SV (sh 1 c) 1 0) O rfl (W := W)
    (depart SV 1 c fs h) (land SV 1 c fn fs h)

/-- Transfer 2, to the device three after. -/
theorem wp_send2 (c n : Dev nD) (hn : n = sh 2 c) {hsc : (recv0 : Memref sig (Dev.tc n : Thread nD τ).2.kind .vmem S192x1024 .f32).view.ref.isScScratch = false}
    {hsrc : (send2 : Memref sig .tc .vmem S192x1024 .f32).view.WordExact} {hdst : (recv0 : Memref sig .tc .vmem S192x1024 .f32).view.WordExact}
    {hsem : DmaTarget.Typed .vmem (.dma recvS0) (.remote (Dev.tc n : Thread nD τ) (recv0 : Memref sig .tc .vmem S192x1024 .f32) (.dma sendS2) hsc)}
    {α : Type} {Q : α → sProp 𝕄} {k : PUnit → Prog (TpuEff nD τ sig (Elt F) Λ₀ .tc) α}
    (fn : Buf (Elt F) (recv0.view.loc (sh 2 c : Thread nD τ))) (fs : Buf (Elt F) (send2.view.loc (c : Thread nD τ))) (O : CellTallies nD τ sig Bool) (W : Waits sig Bool)
    (h : send2.view.read (Elt F) fs = SV c 2) :
    iprop(cellInv ER (exch SV) (K (c, 3)) (sendCell 2 c) ∗ cellInv ER (exch SV) (K (sh 2 c, 4)) (recvCell 0 (sh 2 c))
        ∗ (send2.view.loc (c : Thread nD τ) ↦[send2.view.set]{fullShare} fs) ∗ recvPts 0 (sh 2 c) fn
        ∗ owes (c : Thread nD τ) (O + tallyAt (recvCell 0 (sh 2 c)) true N) W
        ∗ dutyTok ER (sendCell 2 c) 0 (0 : Fin 3) ∗ reached ER (sendCell 2 c) 0
        ∗ dutyTok ER (recvCell 0 (sh 2 c)) 0 (0 : Fin 3) ∗ reached ER (recvCell 0 (sh 2 c)) 0)
      ⊢ iprop(((cred (tallyAt (sendCell 2 c) true N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma send2 (.remote (Dev.tc n : Thread nD τ) recv0 (.dma sendS2) hsc) (.dma recvS0) hsrc hdst hsem) k) Q) := by
  subst hn
  rw [recv_at0]
  exact Rounds.wp_send_pointsTo 𝒱₀ ER (exch SV) (c : Thread nD τ) none (κ₁ := K (c, 3)) (κ₂ := K (sh 2 c, 4))
    (r₁ := 0) (r₂ := 0) (d₁ := (0 : Fin 3)) (d₂ := (0 : Fin 3)) (fd := fn)
    (by rw [duties_send SV c 2]; exact Finset.mem_singleton_self _) (by rw [duties_recv SV (sh 2 c) 0]; exact Finset.mem_singleton_self _)
    true true N rfl (amount_send SV c 2 0) (amount_recv SV (sh 2 c) 0 0) O rfl (W := W)
    (depart SV 2 c fs h) (land SV 2 c fn fs h)

end Cert.Moe

end
-- ==== Proof.Body.lean ====
module

public import proofs.«01_k».proof.Proof.Send
import Idealize.ShloMosaic.Lib.Exec

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

abbrev body : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole main_arg3) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8

/-- What a device holds when its body is done: its arguments as they were, its result at `res`, the scratch buffers at
    some contents, and every counter at zero. -/
def bodyEnd (SV : Dev nD → Fin 3 → Vec F S192x1024 .f32) (c : Dev nD) (X : Buf (Elt F) (((c : Dev nD) : Thread nD τ).loc cc0_stg0_0))
    (RW : Buf (Elt F) (((c : Dev nD) : Thread nD τ).loc cc0_stg1_0)) (RI : Buf (Elt F) (((c : Dev nD) : Thread nD τ).loc cc0_stg2_0))
    (SW : Buf (Elt F) (((c : Dev nD) : Thread nD τ).loc cc0_stg3_0)) (EW : Buf (Elt F) (((c : Dev nD) : Thread nD τ).loc main_arg3)) : sProp 𝕄 :=
  iprop(whole c cc0_stg0_0 X ∗ whole c cc0_stg1_0 RW ∗ whole c cc0_stg2_0 RI ∗ whole c cc0_stg3_0 SW ∗ whole c main_arg3 EW
     ∗ whole c cc0_stg4_0 (res c X RW RI EW SW fun j => SV (sh j c) (rev j))
     ∗ (∃ f, wb0Pts c f) ∗ (∃ f, wb1Pts c f) ∗ (∃ f, whole c cc0_scratch1 f) ∗ (∃ f, whole c cc0_scratch2 f) ∗ (∃ f, whole c cc0_scratch3 f)
     ∗ (∃ f, sendPts 0 c f) ∗ (∃ f, sendPts 1 c f) ∗ (∃ f, sendPts 2 c f) ∗ (∃ f, recvPts 0 c f) ∗ (∃ f, recvPts 1 c f) ∗ (∃ f, recvPts 2 c f)
     ∗ semVal ((c : Thread nD τ), .dma wS0) 0 ∗ semVal ((c : Thread nD τ), .dma wS1) 0
     ∗ semVal (barCell c) 0 ∗ semVal (sendCell 0 c) 0 ∗ semVal (sendCell 1 c) 0 ∗ semVal (sendCell 2 c) 0
     ∗ semVal (recvCell 0 c) 0 ∗ semVal (recvCell 1 c) 0 ∗ semVal (recvCell 2 c) 0
     ∗ ∃ W : Waits sig Bool, owes (c : Thread nD τ) 0 W)

variable (SV : Dev nD → Fin 3 → Vec F S192x1024 .f32) (K : Dev nD × Fin 7 → ℕ)

set_option maxHeartbeats 4000000 in
theorem sound_body (c : Dev nD) (Kt : PUnit → sProp 𝕄) (X : Buf (Elt F) (((c : Dev nD) : Thread nD τ).loc cc0_stg0_0))
  (RW : Buf (Elt F) (((c : Dev nD) : Thread nD τ).loc cc0_stg1_0)) (RI : Buf (Elt F) (((c : Dev nD) : Thread nD τ).loc cc0_stg2_0))
  (SW : Buf (Elt F) (((c : Dev nD) : Thread nD τ).loc cc0_stg3_0)) (EW : Buf (Elt F) (((c : Dev nD) : Thread nD τ).loc main_arg3))
  (f4 : Buf (Elt F) (((c : Dev nD) : Thread nD τ).loc cc0_stg4_0))
  (g0 : Buf (Elt F) (wb0.view.loc (c : Thread nD τ))) (g0' : Buf (Elt F) (wb1.view.loc (c : Thread nD τ)))
  (g1 : Buf (Elt F) (((c : Dev nD) : Thread nD τ).loc cc0_scratch1)) (g2 : Buf (Elt F) (((c : Dev nD) : Thread nD τ).loc cc0_scratch2)) (g3 : Buf (Elt F) (((c : Dev nD) : Thread nD τ).loc cc0_scratch3))
  (s0 : Buf (Elt F) (send0.view.loc (c : Thread nD τ))) (s1 : Buf (Elt F) (send1.view.loc (c : Thread nD τ))) (s2 : Buf (Elt F) (send2.view.loc (c : Thread nD τ)))
  (r0 : Buf (Elt F) (recv0.view.loc (c : Thread nD τ))) (r1 : Buf (Elt F) (recv1.view.loc (c : Thread nD τ))) (r2 : Buf (Elt F) (recv2.view.loc (c : Thread nD τ)))
  (W : Waits sig Bool)
   (hSV : ∀ s, SV c s = packed c (sh s c) X RW RI EW) :
   iprop(invs SV K c ∗ marks c ∗ levAts L lv ∗ places c ∗ duesTok c ∗ creds c
     ∗ whole c cc0_stg0_0 X ∗ whole c cc0_stg1_0 RW ∗ whole c cc0_stg2_0 RI ∗ whole c cc0_stg3_0 SW ∗ whole c main_arg3 EW
     ∗ whole c cc0_stg4_0 f4 ∗ wb0Pts c g0 ∗ wb1Pts c g0' ∗ whole c cc0_scratch1 g1 ∗ whole c cc0_scratch2 g2 ∗ whole c cc0_scratch3 g3
     ∗ sendPts 0 c s0 ∗ sendPts 1 c s1 ∗ sendPts 2 c s2 ∗ recvPts 0 c r0 ∗ recvPts 1 c r1 ∗ recvPts 2 c r2
     ∗ semVal ((c : Thread nD τ), .dma wS0) 0 ∗ semVal ((c : Thread nD τ), .dma wS1) 0
     ∗ owes (c : Thread nD τ) (O₀ c) W ∗ (bodyEnd SV c X RW RI SW EW -∗ Kt ⟨⟩))
      ⊢ wp frame (wpE (defs₀ (F := F)) 𝒱₀ c none) Set.univ body Kt := by
  unfold body
  simp only [cc0_body_eq_skeleton]; unfold cc0_body_skel
  simp only [k0_part18_eq_skeleton]; unfold k0_part18_skel
  simp only [k0_part1_eq_skeleton]; unfold k0_part1_skel
  simp only [semSignalWord, semWaitWord, Prog.lift, Prog.bind_op, Prog.bind_ret, Prog.pure_eq_ret, wp_deviceId]
  unfold invs marks places duesTok creds
  iintro ⟨⟨#HIb, #HIs0, #HIs1, #HIs2, #HIr0, #HIr1, #HIr2, #HIb0, #HIb1, #HIb2, #HIq0, #HIq1, #HIq2⟩,
    ⟨#HMb0, #HMb1, #HMb2, #HMs0, #HMs1, #HMs2, #HMr0, #HMr1, #HMr2⟩, #Hlev,
    ⟨HAb, HAs0, HAs1, HAs2, HAr0, HAr1, HAr2⟩,
    ⟨HTb0, HTb1, HTb2, HTs0, HTs1, HTs2, HTr0, HTr1, HTr2⟩,
    ⟨HCb, HCr0, HCr1, HCr2⟩,
    Hx, Hrw, Hri, Hsw, Hew, Hout, Hw0, Hw1, Hp, Hye, Hdh, Hsd0, Hsd1, Hsd2, Hrc0, Hrc1, Hrc2, Hq0, Hq1, HO, Hk⟩
  simp only [dev1_eq c, dev2_eq c, dev3_eq c]
  unfold O₀
  -- the three signals: to `sh s c` goes slot `s`... of this device's receive buffer
  iapply (Rounds.wp_signal 𝒱₀ ER (exch SV) (c : Thread nD τ) none (dst := (sh 0 c : Thread nD τ)) (κ := K (sh 0 c, 0))
      (d := (0 : Fin 3)) (by rw [duties_bar]; exact Finset.mem_univ _) ((amount_bar SV (sh 0 c) 0).trans (by decide)) true _ rfl)
    $$ [HO HTb0 Hrc0]
  · isplitr; · iexact HIb0
    isplitl [HO]; · iexact HO
    isplitl [HTb0]; · iexact HTb0
    isplitl [Hrc0]
    · rw [payload_bar]; unfold barPay; rw [rev_sh]
      isplitl [Hrc0]; · iexists r0; iexact Hrc0
      iexact HMr0
    iexact HMb0
  iintro HO
  iapply (Rounds.wp_signal 𝒱₀ ER (exch SV) (c : Thread nD τ) none (dst := (sh 1 c : Thread nD τ)) (κ := K (sh 1 c, 0))
      (d := (1 : Fin 3)) (by rw [duties_bar]; exact Finset.mem_univ _) ((amount_bar SV (sh 1 c) 1).trans (by decide)) true _ rfl)
    $$ [HO HTb1 Hrc1]
  · isplitr; · iexact HIb1
    isplitl [HO]; · iexact HO
    isplitl [HTb1]; · iexact HTb1
    isplitl [Hrc1]
    · rw [payload_bar]; unfold barPay; rw [rev_sh]
      isplitl [Hrc1]; · iexists r1; iexact Hrc1
      iexact HMr1
    iexact HMb1
  iintro HO
  iapply (Rounds.wp_signal 𝒱₀ ER (exch SV) (c : Thread nD τ) none (dst := (sh 2 c : Thread nD τ)) (κ := K (sh 2 c, 0))
      (d := (2 : Fin 3)) (by rw [duties_bar]; exact Finset.mem_univ _) ((amount_bar SV (sh 2 c) 2).trans (by decide)) true _ rfl)
    $$ [HO HTb2 Hrc2]
  · isplitr; · iexact HIb2
    isplitl [HO]; · iexact HO
    isplitl [HTb2]; · iexact HTb2
    isplitl [Hrc2]
    · rw [payload_bar]; unfold barPay; rw [rev_sh]
      isplitl [Hrc2]; · iexists r2; iexact Hrc2
      iexact HMr2
    iexact HMb2
  iintro HO
  iapply (Rounds.wp_wait_rest_token 𝒱₀ ER (exch SV) (c : Thread nD τ) none (κ := K (c, 0))
      (wpE_semWait_eq 𝒱₀ (c : Thread nD τ) none Set.univ) (Set.mem_univ _) true (O := OR c) (W := W) (R := 0) (m := 0) (T := ∅)
      (by rw [expect_bar]; decide)) $$ [HCb HO HAb]
  · isplitr; · iexact HIb
    isplitl [HCb]; · iexact HCb
    isplitl [HO]; · iexact HO
    isplitr; · iapply (mayWait_bar c); iexact Hlev
    iexact HAb
  iintro ⟨HO, HAb, -, Hpay⟩
  ihave Hp := (Entails.of_eq (rest_bar SV c)) $$ Hpay
  ihave #Hmw := (mayWaits_own (F := F) c (peer_OR c)) $$ Hlev
  unfold barPay wb0Pts wb1Pts
  icases Hp with ⟨⟨⟨%n0, Hn0⟩, #HN0⟩, ⟨⟨%n1, Hn1⟩, #HN1⟩, ⟨⟨%n2, Hn2⟩, #HN2⟩⟩
  sl_exec
  have er : sound_body.sl.r c RI = k0_pay2 RI := by unfold sound_body.sl.r; rw [ld_ri]
  have er1 : sound_body.sl.r_1 c X RW RI = prob X RW RI := by unfold sound_body.sl.r_1 prob; rw [ld_x, ld_rw, ld_ri]
  have er2 : sound_body.sl.r_2 c RI = onehot c RI := by unfold sound_body.sl.r_2 onehot; rw [ld_ri]
  have er3 : sound_body.sl.r_3 c RI = k0_pay5 (me c) RI := by unfold sound_body.sl.r_3; rw [ld_ri]
  have er4 : sound_body.sl.r_4 c RI = k0_pay7 (me c) RI := by unfold sound_body.sl.r_4; rw [ld_ri]
  have er5 : sound_body.sl.r_5 c RI = counts c RI := by unfold sound_body.sl.r_5 counts; rw [er3, er4]
  have er6 : sound_body.sl.r_6 c RI = asg₀ c RI := by unfold sound_body.sl.r_6 asg₀; rw [er, er2, er3, er4]
  have er7 : sound_body.sl.r_7 c X RI = slotX c X RI := by unfold sound_body.sl.r_7 slotX; rw [er6, ld_x]
  have er8 : sound_body.sl.r_8 c X RW RI = slotP c X RW RI := by unfold sound_body.sl.r_8 slotP; rw [er6, er1]
  have er11 : sound_body.sl.r_11 c RI = owner c RI := by
    unfold sound_body.sl.r_11 owner
    exact congrArg k0_pay24 (ld_rows (n := 1) (Memref.whole cc0_stg2_0 : Memref sig .tc _ _ _).view RI c (k0_off1_eq c) _)
  have er12 : sound_body.sl.r_12 c RI = before c RI := by
    unfold sound_body.sl.r_12 before
    exact congrArg k0_pay25 (ld_rows (n := 1) (Memref.whole cc0_stg2_0 : Memref sig .tc _ _ _).view RI c (k0_off1_eq c) _)
  have hP : (Memref.whole cc0_scratch1 : Memref sig .tc _ _ _).view.writes (Elt F) (Memref.whole cc0_scratch1 : Memref sig .tc _ _ _).view.junk (sound_body.sl.Hp_1 c RI) = asg c RI := by
    unfold sound_body.sl.Hp_1 asg; rw [er6]; exact st_all cc0_scratch1 _ _ _ _
  have hD : (Memref.whole cc0_scratch3 : Memref sig .tc _ _ _).view.writes (Elt F) (Memref.whole cc0_scratch3 : Memref sig .tc _ _ _).view.junk (sound_body.sl.Hdh_1 c RI) = disp c RI := by
    unfold sound_body.sl.Hdh_1 disp; rw [er2, er5]; exact st_all cc0_scratch3 _ _ _ _
  have e0 : sound_body.sl.v139 c EW = wgt₁ EW 0 := by
    unfold sound_body.sl.v139; rw [ld_w0, rd_top]; exact congrArg (fun u => shapeCast S1x1024x1024 u casts_wgt) (rd_ew EW 0 rfl _ _ _)
  have e1 : sound_body.sl.v161 c EW = wgt₁ EW 1 := by
    unfold sound_body.sl.v161; rw [ld_w1, rd_top]; exact congrArg (fun u => shapeCast S1x1024x1024 u casts_wgt) (rd_ew EW 1 rfl _ _ _)
  have e2 : sound_body.sl.v183 c EW = wgt₁ EW 2 := by
    unfold sound_body.sl.v183; rw [ld_w0, rd_top]; exact congrArg (fun u => shapeCast S1x1024x1024 u casts_wgt) (rd_ew EW 2 rfl _ _ _)
  have e3 : sound_body.sl.v205 c EW = wgt₁ EW 3 := by
    unfold sound_body.sl.v205; rw [ld_w1, rd_top]; exact congrArg (fun u => shapeCast S1x1024x1024 u casts_wgt) (rd_ew EW 3 rfl _ _ _)
  have e4 : sound_body.sl.v227 c EW = wgt₁ EW 4 := by
    unfold sound_body.sl.v227; rw [ld_w0, rd_top]; exact congrArg (fun u => shapeCast S1x1024x1024 u casts_wgt) (rd_ew EW 4 rfl _ _ _)
  have e5 : sound_body.sl.v249 c EW = wgt₁ EW 5 := by
    unfold sound_body.sl.v249; rw [ld_w1, rd_top]; exact congrArg (fun u => shapeCast S1x1024x1024 u casts_wgt) (rd_ew EW 5 rfl _ _ _)
  have e6 : sound_body.sl.v271 c EW = wgt₁ EW 6 := by
    unfold sound_body.sl.v271; rw [ld_w0, rd_top]; exact congrArg (fun u => shapeCast S1x1024x1024 u casts_wgt) (rd_ew EW 6 rfl _ _ _)
  have e7 : sound_body.sl.v287 c EW = wgt₁ EW 7 := by
    unfold sound_body.sl.v287; rw [ld_w1, rd_top]; exact congrArg (fun u => shapeCast S1x1024x1024 u casts_wgt) (rd_ew EW 7 rfl _ _ _)
  have hY (g : (cc0_scratch2 : Ref sig .tc).ty.Contents (Elt F)) : (Memref.whole cc0_scratch2 : Memref sig .tc _ _ _).view.writes (Elt F) g (sound_body.sl.Hye_8 c X RW RI EW) = rowsY c X RW RI EW := by
    unfold sound_body.sl.Hye_8
    unfold sound_body.sl.r_9 sound_body.sl.r_10
    rw [er1, er6, er7, er8, e0, e1, e2, e3, e4, e5, e6, e7]
    rw [ld_x]
    exact st_rows c X RW RI EW g
  ihave Hp := (Entails.of_eq (congrArg (whole c cc0_scratch1) hP)) $$ Hp
  ihave Hdh := (Entails.of_eq (congrArg (whole c cc0_scratch3) hD)) $$ Hdh
  ihave Hye := (Entails.of_eq (congrArg (whole c cc0_scratch2) (hY g2))) $$ Hye
  simp only [er11, er12]
  have ev398 : sound_body.sl.v398 c RI = blk (n := 192) (sh 0 c) (disp c RI) := by
    unfold sound_body.sl.v398; rw [hD]
    exact ld_rows (n := 192) (Memref.whole cc0_scratch3 : Memref sig .tc .vmem S2048x192 .f32).view (disp c RI) (sh 0 c) (k0_off2_eq c 0) _
  have ev400 : sound_body.sl.v400 c RI = blk (n := 1024) (sh 0 c) (asg c RI) := by
    unfold sound_body.sl.v400; rw [hP]
    exact ld_rows (n := 1024) (Memref.whole cc0_scratch1 : Memref sig .tc .vmem S2048x1024 .f32).view (asg c RI) (sh 0 c) (k0_off3_eq c 0) _
  have ev402 : sound_body.sl.v402 c X RW RI EW = rowsY c X RW RI EW := by
    unfold sound_body.sl.v402 View.readCov; rw [hY]; exact ld_y _
  clear hP hD hY e0 e1 e2 e3 e4 e5 e6 e7 er er1 er2 er3 er4 er5 er6 er7 er8 er11 er12
  ihave Hsd0 := (Entails.of_eq (send_at0 c s0)) $$ Hsd0
  ihave Hsd1 := (Entails.of_eq (send_at1 c s1)) $$ Hsd1
  ihave Hsd2 := (Entails.of_eq (send_at2 c s2)) $$ Hsd2
  sl_exec
  -- the first transfer
  have hs0 : send0.view.read (Elt F) (sound_body.sl.Hsd0_w1 c X RW RI EW s0) = SV c 0 := by
    rw [hSV 0]
    unfold packed sound_body.sl.Hsd0_w1; rw [ev398, ev400, ev402]
    exact st_slot (Memref.whole cc0_scratch4 : Memref sig .tc .vmem S3x192x1024 .f32) inb_S3x192x1024_S1x192x1024_0_0_0 (fun _ => rfl) squeezes_S1x192x1024_S192x1024 s0 _ []
  unfold OR
  iapply (wp_send0 SV K c _ (dev4_eq c) n2 _ _ _ hs0) $$ [Hsd0 Hn2 HO HTs0 HTr0]
  · isplitr; · iexact HIs0
    isplitr; · iexact HIq0
    isplitl [Hsd0]; · iexact Hsd0
    isplitl [Hn2]; · iexact Hn2
    isplitl [HO]; · iexact HO
    isplitl [HTs0]; · iexact HTs0
    isplitr; · iexact HMs0
    isplitl [HTr0]; · iexact HTr0
    iexact HN2
  iintro ⟨HcS0, HO⟩
  sl_exec
  -- the second
  have hs1 : send1.view.read (Elt F) (sound_body.sl.Hsd1_w1 c X RW RI EW s1) = SV c 1 := by
    rw [hSV 1]
    unfold packed sound_body.sl.Hsd1_w1 sound_body.sl.r_14
    rw [ld_y]
    refine (st_slot (Memref.whole cc0_scratch4 : Memref sig .tc .vmem S3x192x1024 .f32) inb_S3x192x1024_S1x192x1024_1_0_0 (fun _ => rfl) squeezes_S1x192x1024_S192x1024 s1 _ []).trans ?_
    refine congrArg (fun u => shapeCast S192x1024 u shapeCasts_S1x192x1024_S192x1024) ?_
    exact congrArg₂ (fun u v => k0_pay26 u v (rowsY c X RW RI EW))
      (ld_rows (n := 192) (Memref.whole cc0_scratch3 : Memref sig .tc .vmem S2048x192 .f32).view (disp c RI) (sh 1 c) (k0_off2_eq c 1) _)
      (ld_rows (n := 1024) (Memref.whole cc0_scratch1 : Memref sig .tc .vmem S2048x1024 .f32).view (asg c RI) (sh 1 c) (k0_off3_eq c 1) _)
  iapply (wp_send1 SV K c _ (dev5_eq c) n1 _ _ _ hs1) $$ [Hsd1 Hn1 HO HTs1 HTr1]
  · isplitr; · iexact HIs1
    isplitr; · iexact HIq1
    isplitl [Hsd1]; · iexact Hsd1
    isplitl [Hn1]; · iexact Hn1
    isplitl [HO]; · iexact HO
    isplitl [HTs1]; · iexact HTs1
    isplitr; · iexact HMs1
    isplitl [HTr1]; · iexact HTr1
    iexact HN1
  iintro ⟨HcS1, HO⟩
  sl_exec
  -- the third
  have hs2 : send2.view.read (Elt F) (sound_body.sl.Hsd2_w1 c X RW RI EW s2) = SV c 2 := by
    rw [hSV 2]
    unfold packed sound_body.sl.Hsd2_w1
    rw [ld_y]
    refine (st_slot (Memref.whole cc0_scratch4 : Memref sig .tc .vmem S3x192x1024 .f32) inb_S3x192x1024_S1x192x1024_2_0_0 (fun _ => rfl) squeezes_S1x192x1024_S192x1024 s2 _ []).trans ?_
    refine congrArg (fun u => shapeCast S192x1024 u shapeCasts_S1x192x1024_S192x1024) ?_
    exact congrArg₂ (fun u v => k0_pay26 u v (rowsY c X RW RI EW))
      (ld_rows (n := 192) (Memref.whole cc0_scratch3 : Memref sig .tc .vmem S2048x192 .f32).view (disp c RI) (sh 2 c) (k0_off2_eq c 2) _)
      (ld_rows (n := 1024) (Memref.whole cc0_scratch1 : Memref sig .tc .vmem S2048x1024 .f32).view (asg c RI) (sh 2 c) (k0_off3_eq c 2) _)
  ihave HO := (Entails.of_eq (congrArg (fun O => owes (c : Thread nD τ) O _) (zero_add (tallyAt (recvCell 0 (sh 2 c)) true N)).symm)) $$ HO
  iapply (wp_send2 SV K c _ (dev6_eq c) n0 _ _ _ hs2) $$ [Hsd2 Hn0 HO HTs2 HTr2]
  · isplitr; · iexact HIs2
    isplitr; · iexact HIq2
    isplitl [Hsd2]; · iexact Hsd2
    isplitl [Hn0]; · iexact Hn0
    isplitl [HO]; · iexact HO
    isplitl [HTs2]; · iexact HTs2
    isplitr; · iexact HMs2
    isplitl [HTr2]; · iexact HTr2
    iexact HN0
  iintro ⟨HcS2, HO⟩
  sl_exec
  ihave Hrc2 := (Entails.of_eq (all_recv SV c 2)) $$ HAr2_pay1
  unfold recvPay
  ihave Hrc2 := (Entails.of_eq (recv_at2 c _)) $$ Hrc2
  sl_exec
  ihave Hrc1 := (Entails.of_eq (all_recv SV c 1)) $$ HAr1_pay1
  unfold recvPay
  ihave Hrc1 := (Entails.of_eq (recv_at1 c _)) $$ Hrc1
  sl_exec
  ihave Hrc0 := (Entails.of_eq (all_recv SV c 0)) $$ HAr0_pay1
  unfold recvPay
  ihave Hrc0 := (Entails.of_eq (recv_at0 c _)) $$ Hrc0
  sl_exec
  imod (Rounds.cell_close ER (exch SV) (Set.mem_univ (K (c, 0))) (fun h => h) (R := 0 + 1) (duties_later SV (barCell c))) $$ [HAb] with Hz0
  · isplitr; · iexact HIb
    iexact HAb
  imod (Rounds.cell_close ER (exch SV) (Set.mem_univ (K (c, 1))) (fun h => h) (R := 0 + 1) (duties_later SV (sendCell 0 c))) $$ [HAs0] with Hz1
  · isplitr; · iexact HIs0
    iexact HAs0
  imod (Rounds.cell_close ER (exch SV) (Set.mem_univ (K (c, 2))) (fun h => h) (R := 0 + 1) (duties_later SV (sendCell 1 c))) $$ [HAs1] with Hz2
  · isplitr; · iexact HIs1
    iexact HAs1
  imod (Rounds.cell_close ER (exch SV) (Set.mem_univ (K (c, 3))) (fun h => h) (R := 0 + 1) (duties_later SV (sendCell 2 c))) $$ [HAs2] with Hz3
  · isplitr; · iexact HIs2
    iexact HAs2
  imod (Rounds.cell_close ER (exch SV) (Set.mem_univ (K (c, 4))) (fun h => h) (R := 0 + 1) (duties_later SV (recvCell 0 c))) $$ [HAr0] with Hz4
  · isplitr; · iexact HIr0
    iexact HAr0
  imod (Rounds.cell_close ER (exch SV) (Set.mem_univ (K (c, 5))) (fun h => h) (R := 0 + 1) (duties_later SV (recvCell 1 c))) $$ [HAr1] with Hz5
  · isplitr; · iexact HIr1
    iexact HAr1
  imod (Rounds.cell_close ER (exch SV) (Set.mem_univ (K (c, 6))) (fun h => h) (R := 0 + 1) (duties_later SV (recvCell 2 c))) $$ [HAr2] with Hz6
  · isplitr; · iexact HIr2
    iexact HAr2
  ihave Hsd0 := (Entails.of_eq (all_send SV c 0)) $$ HAs0_pay1
  ihave Hsd1 := (Entails.of_eq (all_send SV c 1)) $$ HAs1_pay1
  ihave Hsd2 := (Entails.of_eq (all_send SV c 2)) $$ HAs2_pay1
  have hv2 : sound_body.sl.v510 SV c = shapeCast S1x192x1024 (SV (sh 2 c) (rev 2)) shapeCasts_S192x1024_S1x192x1024 := by
    unfold sound_body.sl.v510
    refine (ld_slot (Memref.whole cc0_scratch5 : Memref sig .tc .vmem S3x192x1024 .f32) inb_S3x192x1024_S1x192x1024_2_0_0 (fun _ => rfl) squeezes_S1x192x1024_S192x1024 _).trans ?_
    exact congrArg (fun u => shapeCast S1x192x1024 u shapeCasts_S192x1024_S1x192x1024) (View.read_rep (recvM 2).view _)
  have hv1 : sound_body.sl.v548 SV c = shapeCast S1x192x1024 (SV (sh 1 c) (rev 1)) shapeCasts_S192x1024_S1x192x1024 := by
    unfold sound_body.sl.v548
    refine (ld_slot (Memref.whole cc0_scratch5 : Memref sig .tc .vmem S3x192x1024 .f32) inb_S3x192x1024_S1x192x1024_1_0_0 (fun _ => rfl) squeezes_S1x192x1024_S192x1024 _).trans ?_
    exact congrArg (fun u => shapeCast S1x192x1024 u shapeCasts_S192x1024_S1x192x1024) (View.read_rep (recvM 1).view _)
  have hv0 : sound_body.sl.v586 SV c = shapeCast S1x192x1024 (SV (sh 0 c) (rev 0)) shapeCasts_S192x1024_S1x192x1024 := by
    unfold sound_body.sl.v586
    refine (ld_slot (Memref.whole cc0_scratch5 : Memref sig .tc .vmem S3x192x1024 .f32) inb_S3x192x1024_S1x192x1024_0_0_0 (fun _ => rfl) squeezes_S1x192x1024_S192x1024 _).trans ?_
    exact congrArg (fun u => shapeCast S1x192x1024 u shapeCasts_S192x1024_S1x192x1024) (View.read_rep (recvM 0).view _)
  have hO₀ : sound_body.sl.v508 c X RW RI SW EW = res₀ c X RW RI EW SW := by
    unfold sound_body.sl.v508 sound_body.sl.Hout_1 res₀
    rw [rd_out, ld_y, ld_sw]
    exact congrArg₂ (fun u v => k0_pay30 u (rowsY c X RW RI EW) v SW)
      (ld_rows (n := 1024) (Memref.whole cc0_scratch1 : Memref sig .tc .vmem S2048x1024 .f32).view (asg c RI) c (k0_off4_eq c) _)
      (ld_rows (n := 1024) (Memref.whole cc0_stg0_0 : Memref sig .tc .vmem S2048x1024 .f32).view X c (k0_off4_eq c) _)
  have hO₁ : sound_body.sl.v546 SV c X RW RI SW EW = res₁ c X RW RI EW SW (fun j => SV (sh j c) (rev j)) := by
    unfold sound_body.sl.v546 sound_body.sl.Hout_2 res₁ sound_body.sl.r_15 sound_body.sl.r_16
    rw [rd_out, hO₀, hv2]; rfl
  have hO₂ : sound_body.sl.v584 SV c X RW RI SW EW = res₂ c X RW RI EW SW (fun j => SV (sh j c) (rev j)) := by
    unfold sound_body.sl.v584 sound_body.sl.Hout_3 res₂ sound_body.sl.r_17
    rw [rd_out, hO₁, hv1]; rfl
  have hO₃ : sound_body.sl.r_18 SV c X RW RI SW EW = res c X RW RI EW SW (fun j => SV (sh j c) (rev j)) := by
    unfold sound_body.sl.r_18 res
    rw [hO₂, hv0]; rfl
  rw [st_out, hO₃, wp_ret]
  imodintro
  iapply Hk
  unfold bodyEnd wb0Pts wb1Pts sendPay
  isplitl [Hx]; · iexact Hx
  isplitl [Hrw]; · iexact Hrw
  isplitl [Hri]; · iexact Hri
  isplitl [Hsw]; · iexact Hsw
  isplitl [Hew]; · iexact Hew
  isplitl [Hout]; · iexact Hout
  isplitl [Hw0]; · iexists _; iexact Hw0
  isplitl [Hw1]; · iexists _; iexact Hw1
  isplitl [Hp]; · iexists _; iexact Hp
  isplitl [Hye]; · iexists _; iexact Hye
  isplitl [Hdh]; · iexists _; iexact Hdh
  isplitl [Hsd0]; · iexists _; iexact Hsd0
  isplitl [Hsd1]; · iexists _; iexact Hsd1
  isplitl [Hsd2]; · iexists _; iexact Hsd2
  isplitl [Hrc0]; · iexists _; iapply (Entails.of_eq (recv_at0 c _).symm); iexact Hrc0
  isplitl [Hrc1]; · iexists _; iapply (Entails.of_eq (recv_at1 c _).symm); iexact Hrc1
  isplitl [Hrc2]; · iexists _; iapply (Entails.of_eq (recv_at2 c _).symm); iexact Hrc2
  isplitl [Hq0]; · iexact Hq0
  isplitl [Hq1]; · iexact Hq1
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  iexists _; iexact HO

end Cert.Moe
end
-- ==== Proof.Slots.lean ====
/-
# The slotted buffers, whole and slot by slot

The weight buffer has two slots, the send and receive buffers three each. Each buffer is the disjoint
union of its slots: held whole it can be dealt slot by slot, and its slots join to the whole again.
-/
module

public import proofs.«01_k».proof.Proof.Stage
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Bool (Elt F) ℕ UU ℕ

/-- Slot `j` of a buffer of `n` slots holds the elements whose first coordinate is `j`. -/
theorem mem_slot3 {off : Fin 3 → ℕ} (inb : ∀ a, off a + S1x192x1024.size a ≤ S3x192x1024.size a) (h1 : off 1 = 0) (h2 : off 2 = 0) (i : S3x192x1024.Idx) :
    i ∈ (Rect.unit (s := S3x192x1024) off S1x192x1024.size inb).set ↔ (i 0).val = off 0 := by
  rw [Rect.mem_set_unit]
  constructor
  · intro h
    have h0 := h 0
    have : S1x192x1024.size 0 = 1 := rfl
    rw [this] at h0; omega
  · intro h a
    have hi := (i a).isLt
    fin_cases a
    · exact ⟨h.ge, by show (i 0).val < off 0 + 1; omega⟩
    · exact ⟨by show off 1 ≤ _; omega, by show (i 1).val < off 1 + 192; have : (i 1).val < 192 := hi; omega⟩
    · exact ⟨by show off 2 ≤ _; omega, by show (i 2).val < off 2 + 1024; have : (i 2).val < 1024 := hi; omega⟩

theorem mem_slot2 {off : Fin 3 → ℕ} (inb : ∀ a, off a + S1x1024x1024.size a ≤ S2x1024x1024.size a) (h1 : off 1 = 0) (h2 : off 2 = 0) (i : S2x1024x1024.Idx) :
    i ∈ (Rect.unit (s := S2x1024x1024) off S1x1024x1024.size inb).set ↔ (i 0).val = off 0 := by
  rw [Rect.mem_set_unit]
  constructor
  · intro h
    have h0 := h 0
    have : S1x1024x1024.size 0 = 1 := rfl
    rw [this] at h0; omega
  · intro h a
    have hi := (i a).isLt
    fin_cases a
    · exact ⟨h.ge, by show (i 0).val < off 0 + 1; omega⟩
    · exact ⟨by show off 1 ≤ _; omega, by show (i 1).val < off 1 + 1024; have : (i 1).val < 1024 := hi; omega⟩
    · exact ⟨by show off 2 ≤ _; omega, by show (i 2).val < off 2 + 1024; have : (i 2).val < 1024 := hi; omega⟩

abbrev sendI (j : Fin 3) : Finset S3x192x1024.Idx := match j with | 0 => send0.view.set | 1 => send1.view.set | 2 => send2.view.set
abbrev recvI (j : Fin 3) : Finset S3x192x1024.Idx := match j with | 0 => recv0.view.set | 1 => recv1.view.set | 2 => recv2.view.set
theorem mem_send (j : Fin 3) (i : S3x192x1024.Idx) : i ∈ sendI j ↔ (i 0).val = j.val := by
  match j with
  | 0 => rw [show sendI 0 = _ from (View.set_reshape _ _).trans (View.set_slice_whole _ _)]; exact mem_slot3 _ rfl rfl i
  | 1 => rw [show sendI 1 = _ from (View.set_reshape _ _).trans (View.set_slice_whole _ _)]; exact mem_slot3 _ rfl rfl i
  | 2 => rw [show sendI 2 = _ from (View.set_reshape _ _).trans (View.set_slice_whole _ _)]; exact mem_slot3 _ rfl rfl i
theorem mem_recv (j : Fin 3) (i : S3x192x1024.Idx) : i ∈ recvI j ↔ (i 0).val = j.val := by
  match j with
  | 0 => rw [show recvI 0 = _ from (View.set_reshape _ _).trans (View.set_slice_whole _ _)]; exact mem_slot3 _ rfl rfl i
  | 1 => rw [show recvI 1 = _ from (View.set_reshape _ _).trans (View.set_slice_whole _ _)]; exact mem_slot3 _ rfl rfl i
  | 2 => rw [show recvI 2 = _ from (View.set_reshape _ _).trans (View.set_slice_whole _ _)]; exact mem_slot3 _ rfl rfl i
theorem mem_wb0 (i : S2x1024x1024.Idx) : i ∈ (wb0.view.set : Finset S2x1024x1024.Idx) ↔ (i 0).val = 0 := by
  rw [show (wb0.view.set : Finset S2x1024x1024.Idx) = _ from (View.set_reshape _ _).trans (View.set_slice_whole _ _)]; exact mem_slot2 _ rfl rfl i
theorem mem_wb1 (i : S2x1024x1024.Idx) : i ∈ (wb1.view.set : Finset S2x1024x1024.Idx) ↔ (i 0).val = 1 := by
  rw [show (wb1.view.set : Finset S2x1024x1024.Idx) = _ from (View.set_reshape _ _).trans (View.set_slice_whole _ _)]; exact mem_slot2 _ rfl rfl i

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin2 (Φ : Fin 2 → sProp 𝕄) : bigSep Finset.univ Φ = iprop(Φ 0 ∗ Φ 1) := bigSep_univ_eq_bigSepL [0, 1] (by decide) (by decide) Φ

abbrev wbI (j : Fin 2) : Finset S2x1024x1024.Idx := match j with | 0 => wb0.view.set | 1 => wb1.view.set

theorem mem_wbI (j : Fin 2) (i : S2x1024x1024.Idx) : i ∈ wbI j ↔ (i 0).val = j.val := by
  match j with
  | 0 => exact mem_wb0 i
  | 1 => exact mem_wb1 i

theorem send_disj (b b' : Fin 3) (h : b ≠ b') : Disjoint (sendI b) (sendI b') :=
  Finset.disjoint_left.mpr fun i hi hi' => h (Fin.ext (((mem_send b i).mp hi).symm.trans ((mem_send b' i).mp hi')))
theorem send_cover : Finset.univ.biUnion sendI = Finset.univ :=
  Finset.eq_univ_iff_forall.mpr fun i => Finset.mem_biUnion.mpr ⟨i 0, Finset.mem_univ _, (mem_send _ i).mpr rfl⟩
theorem recv_disj (b b' : Fin 3) (h : b ≠ b') : Disjoint (recvI b) (recvI b') :=
  Finset.disjoint_left.mpr fun i hi hi' => h (Fin.ext (((mem_recv b i).mp hi).symm.trans ((mem_recv b' i).mp hi')))
theorem recv_cover : Finset.univ.biUnion recvI = Finset.univ :=
  Finset.eq_univ_iff_forall.mpr fun i => Finset.mem_biUnion.mpr ⟨i 0, Finset.mem_univ _, (mem_recv _ i).mpr rfl⟩
theorem wb_disj (b b' : Fin 2) (h : b ≠ b') : Disjoint (wbI b) (wbI b') :=
  Finset.disjoint_left.mpr fun i hi hi' => h (Fin.ext (((mem_wbI b i).mp hi).symm.trans ((mem_wbI b' i).mp hi')))
theorem wb_cover : Finset.univ.biUnion wbI = Finset.univ :=
  Finset.eq_univ_iff_forall.mpr fun i => Finset.mem_biUnion.mpr ⟨i 0, Finset.mem_univ _, (mem_wbI _ i).mpr rfl⟩

/-! ## Dealing a buffer, and joining it -/

theorem send_deal (c : Dev nD) (f : Buf (Elt F) (((c : Dev nD) : Thread nD τ).loc cc0_scratch4)) :
    ((((c : Thread nD τ).loc cc0_scratch4) ↦{fullShare} f : sProp 𝕄)) ⊢ iprop(sendPts 0 c f ∗ sendPts 1 c f ∗ sendPts 2 c f) := by
  rw [Ring.pointsTo_blocks (ℓ := (c : Thread nD τ).loc cc0_scratch4) sendI send_disj send_cover f, bigSep_fin3]
  exact BI.Entails.refl _
theorem recv_deal (c : Dev nD) (f : Buf (Elt F) (((c : Dev nD) : Thread nD τ).loc cc0_scratch5)) :
    ((((c : Thread nD τ).loc cc0_scratch5) ↦{fullShare} f : sProp 𝕄)) ⊢ iprop(recvPts 0 c f ∗ recvPts 1 c f ∗ recvPts 2 c f) := by
  rw [Ring.pointsTo_blocks (ℓ := (c : Thread nD τ).loc cc0_scratch5) recvI recv_disj recv_cover f, bigSep_fin3]
  exact BI.Entails.refl _
theorem wb_deal (c : Dev nD) (f : Buf (Elt F) (((c : Dev nD) : Thread nD τ).loc cc0_scratch0)) :
    ((((c : Thread nD τ).loc cc0_scratch0) ↦{fullShare} f : sProp 𝕄)) ⊢ iprop(wb0Pts c f ∗ wb1Pts c f) := by
  rw [Ring.pointsTo_blocks (ℓ := (c : Thread nD τ).loc cc0_scratch0) wbI wb_disj wb_cover f, bigSep_fin2]
  exact BI.Entails.refl _

theorem send_join (c : Dev nD) :
    iprop((∃ f, sendPts 0 c f) ∗ (∃ f, sendPts 1 c f) ∗ (∃ f, sendPts 2 c f)) ⊢ (iprop(∃ g : Buf (Elt F) (((c : Dev nD) : Thread nD τ).loc cc0_scratch4), ((c : Thread nD τ).loc cc0_scratch4) ↦{fullShare} g) : sProp 𝕄) := by
  have : Nonempty (Buf (Elt F) (((c : Dev nD) : Thread nD τ).loc cc0_scratch4)) := ⟨fun _ => Classical.arbitrary _⟩
  refine BI.Entails.trans ?_ (Ring.pointsTo_blocks_join_exists (ℓ := (c : Thread nD τ).loc cc0_scratch4) sendI send_disj send_cover (Classical.arbitrary _))
  rw [bigSep_fin3]
  exact BI.Entails.refl _
theorem recv_join (c : Dev nD) :
    iprop((∃ f, recvPts 0 c f) ∗ (∃ f, recvPts 1 c f) ∗ (∃ f, recvPts 2 c f)) ⊢ (iprop(∃ g : Buf (Elt F) (((c : Dev nD) : Thread nD τ).loc cc0_scratch5), ((c : Thread nD τ).loc cc0_scratch5) ↦{fullShare} g) : sProp 𝕄) := by
  have : Nonempty (Buf (Elt F) (((c : Dev nD) : Thread nD τ).loc cc0_scratch5)) := ⟨fun _ => Classical.arbitrary _⟩
  refine BI.Entails.trans ?_ (Ring.pointsTo_blocks_join_exists (ℓ := (c : Thread nD τ).loc cc0_scratch5) recvI recv_disj recv_cover (Classical.arbitrary _))
  rw [bigSep_fin3]
  exact BI.Entails.refl _
theorem wb_join (c : Dev nD) :
    iprop((∃ f, wb0Pts c f) ∗ (∃ f, wb1Pts c f)) ⊢ (iprop(∃ g : Buf (Elt F) (((c : Dev nD) : Thread nD τ).loc cc0_scratch0), ((c : Thread nD τ).loc cc0_scratch0) ↦{fullShare} g) : sProp 𝕄) := by
  have : Nonempty (Buf (Elt F) (((c : Dev nD) : Thread nD τ).loc cc0_scratch0)) := ⟨fun _ => Classical.arbitrary _⟩
  refine BI.Entails.trans ?_ (Ring.pointsTo_blocks_join_exists (ℓ := (c : Thread nD τ).loc cc0_scratch0) wbI wb_disj wb_cover (Classical.arbitrary _))
  rw [bigSep_fin2]
  exact BI.Entails.refl _

end Cert.Moe

end
-- ==== Proof.Launch.lean ====
/-
# The launch: every device's run, from the initial memory to the final one

`run_main` says that from any memory with every counter at zero, the four devices' programs end; each
device's result then holds `outC`, its arguments hold what they held, and every counter is at zero.
-/
module

public import proofs.«01_k».proof.Proof.Body
public import proofs.«01_k».proof.Proof.Slots
public import proofs.«01_k».proof.Proof.Gen.KernelIdeal.Points
public import Idealize.ShloMosaic.Lib.Pipeline.CollectiveSegs
public import Idealize.ShloMosaic.Lib.Pipeline.Value
public import Idealize.ShloMosaic.Lib.Quiescent

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-! ## The contents -/

/-- The memory at launch. -/
def s₀ : MemSt nD τ sig (Elt F) := ⟨m, fun _ => 0, ρ⟩

/-- The arguments of device `c`: tokens, router weights, route indices, its experts' weights, the shared expert's. -/
abbrev inX (c : Dev nD) : Vec F S2048x1024 .f32 := m ((c : Thread nD τ).loc main_arg0)
abbrev inRW (c : Dev nD) : Vec F S1024x32 .f32 := m ((c : Thread nD τ).loc main_arg1)
abbrev inRI (c : Dev nD) : Vec F S2048x1 .i32 := m ((c : Thread nD τ).loc main_arg2)
abbrev inEW (c : Dev nD) : Vec F S8x1024x1024 .f32 := m ((c : Thread nD τ).loc main_arg3)
abbrev inSW (c : Dev nD) : Vec F S1024x1024 .f32 := m ((c : Thread nD τ).loc main_arg4)

/-- What device `p` sends with its transfer number `s`: the rows for the tokens of device `sh s p`. -/
def sent (p : Dev nD) (s : Fin 3) : Vec F S192x1024 .f32 := packed p (sh s p) (inX m p) (inRW m p) (inRI m p) (inEW m p)
/-- The result of device `c`. -/
def outC (c : Dev nD) : Vec F S512x1024 .f32 :=
  res c (inX m c) (inRW m c) (inRI m c) (inEW m c) (inSW m c) fun j => sent m (sh j c) (rev j)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The exchange's state a device starts from, and the weight copies' semaphores. -/
def ghost (K : Dev nD × Fin 7 → ℕ) (c : Dev nD) : sProp 𝕄 :=
  iprop(invs (sent m) K c ∗ marks c ∗ places c ∗ duesTok c ∗ semVal ((c : Thread nD τ), .dma wS0) 0 ∗ semVal ((c : Thread nD τ), .dma wS1) 0)

/-- What the launch hands a device. -/
def start (c : Dev nD) : sProp 𝕄 :=
  iprop((∃ K, ghost m K c) ∗ creds c ∗ levAts L lv ∗ whole c main_arg3 (inEW m c))

/-- The scratch buffers, at some contents. -/
def scratch (c : Dev nD) : sProp 𝕄 :=
  iprop((∃ f, wb0Pts (F := F) c f) ∗ (∃ f, wb1Pts (F := F) c f) ∗ (∃ f : Buf (Elt F) (((c : Dev nD) : Thread nD τ).loc cc0_scratch1), whole c cc0_scratch1 f)
    ∗ (∃ f : Buf (Elt F) (((c : Dev nD) : Thread nD τ).loc cc0_scratch2), whole c cc0_scratch2 f)
    ∗ (∃ f : Buf (Elt F) (((c : Dev nD) : Thread nD τ).loc cc0_scratch3), whole c cc0_scratch3 f)
    ∗ (∃ f, sendPts (F := F) 0 c f) ∗ (∃ f, sendPts (F := F) 1 c f) ∗ (∃ f, sendPts (F := F) 2 c f)
    ∗ (∃ f, recvPts (F := F) 0 c f) ∗ (∃ f, recvPts (F := F) 1 c f) ∗ (∃ f, recvPts (F := F) 2 c f))

def Φ₀ (c : Dev nD) : sProp 𝕄 := iprop(start m c ∗ scratch c)
/-- After the body: the experts' weights as they were, the scratch buffers, every counter at zero. -/
def Φ₁ (c : Dev nD) : sProp 𝕄 :=
  iprop(whole c main_arg3 (inEW m c) ∗ scratch c
     ∗ semVal ((c : Thread nD τ), .dma wS0) 0 ∗ semVal ((c : Thread nD τ), .dma wS1) 0
     ∗ semVal (barCell c) 0 ∗ semVal (sendCell 0 c) 0 ∗ semVal (sendCell 1 c) 0 ∗ semVal (sendCell 2 c) 0
     ∗ semVal (recvCell 0 c) 0 ∗ semVal (recvCell 1 c) 0 ∗ semVal (recvCell 2 c) 0)

def dats (_ : Fin 1) (c : Dev nD) : Dat τ (Elt F) Bool ℕ UU ℕ cfg0 c where
  A w := (s₀ m ρ).mem ((cfg0.win w).arr.view.loc (c : Thread nD τ))
  after w _ := match w with
    | ⟨0, _⟩ => inX m c
    | ⟨1, _⟩ => inRW m c
    | ⟨2, _⟩ => inRI m c
    | ⟨3, _⟩ => inSW m c
    | ⟨4, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_at (w : Fin 5) (hw : w ≠ 4) : (cfg0.win w).fetch t₀ = true := by
  fin_cases w
  · exact fetch0_0 _
  · exact fetch0_1 _
  · exact fetch0_2 _
  · exact fetch0_3 _
  · exact absurd rfl hw

theorem owns_whole_eq (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt false t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 :=
  iprop(Φ₁ m c ∗ (dats m ρ 0 c).owesAt false t₀.succ ∗ stg c cc0_stg0_0 (inX m c) ∗ stg c cc0_stg1_0 (inRW m c) ∗ stg c cc0_stg2_0 (inRI m c)
    ∗ stg c cc0_stg3_0 (inSW m c) ∗ stg c cc0_stg4_0 (outC m c))

/-! Each argument's one window is the whole array. -/

theorem before_0 (c : Dev nD) (d) : (dats m ρ 0 c).before (0 : Fin 5) t₀ d = inX m c := by
  have hz : (fun a => (win0_0.index (0 : Fin 1)) a * main_arg0.ty.shape.size a) = fun _ => 0 := funext fun a => by fin_cases a <;> decide
  unfold Dat.before
  rw [if_pos (fetch_at 0 (by decide))]
  exact Memref.read_access_unit_zero (Elt F) main_arg0 hz (fun a => by fin_cases a <;> decide) _
theorem before_1 (c : Dev nD) (d) : (dats m ρ 0 c).before (1 : Fin 5) t₀ d = inRW m c := by
  have hz : (fun a => (win0_1.index (0 : Fin 1)) a * main_arg1.ty.shape.size a) = fun _ => 0 := funext fun a => by fin_cases a <;> decide
  unfold Dat.before
  rw [if_pos (fetch_at 1 (by decide))]
  exact Memref.read_access_unit_zero (Elt F) main_arg1 hz (fun a => by fin_cases a <;> decide) _
theorem before_2 (c : Dev nD) (d) : (dats m ρ 0 c).before (2 : Fin 5) t₀ d = inRI m c := by
  have hz : (fun a => (win0_2.index (0 : Fin 1)) a * main_arg2.ty.shape.size a) = fun _ => 0 := funext fun a => by fin_cases a <;> decide
  unfold Dat.before
  rw [if_pos (fetch_at 2 (by decide))]
  exact Memref.read_access_unit_zero (Elt F) main_arg2 hz (fun a => by fin_cases a <;> decide) _
theorem before_3 (c : Dev nD) (d) : (dats m ρ 0 c).before (3 : Fin 5) t₀ d = inSW m c := by
  have hz : (fun a => (win0_3.index (0 : Fin 1)) a * main_arg4.ty.shape.size a) = fun _ => 0 := funext fun a => by fin_cases a <;> decide
  unfold Dat.before
  rw [if_pos (fetch_at 3 (by decide))]
  exact Memref.read_access_unit_zero (Elt F) main_arg4 hz (fun a => by fin_cases a <;> decide) _

theorem whole_at (c : Dev nD) (b : Ref sig .tc) (f : Buf (Elt F) (((c : Dev nD) : Thread nD τ).loc b)) :
    (whole c b f : sProp 𝕄) = (((c : Thread nD τ).loc b) ↦{fullShare} f) := rfl

set_option maxHeartbeats 1600000 in
theorem body_run (c : Dev nD) : bodyPre m ρ c ⊢ wp frame (wpE (defs₀ (F := F)) 𝒱₀ c none) Set.univ body (fun _ => bodyPost m ρ c) := by
  unfold bodyPre Φ₀ start ghost scratch
  simp only [before_0, before_1, before_2, before_3]
  iintro ⟨⟨⟨⟨%K, Hi, Hm, Hp, Hd, Hq0, Hq1⟩, Hc, Hl, Hew⟩,
      ⟨%g0, Hw0⟩, ⟨%g1, Hw1⟩, ⟨%f1, Hs1⟩, ⟨%f2, Hs2⟩, ⟨%f3, Hs3⟩, ⟨%a0, Ha0⟩, ⟨%a1, Ha1⟩, ⟨%a2, Ha2⟩, ⟨%b0, Hb0⟩, ⟨%b1, Hb1⟩, ⟨%b2, Hb2⟩⟩,
    Ho, ⟨%d0, %x0, %hx0, Hx0⟩, ⟨%d1, %x1, %hx1, Hx1⟩, ⟨%d2, %x2, %hx2, Hx2⟩, ⟨%d3, %x3, %hx3, Hx3⟩, ⟨%d4, %x4, %hx4, Hx4⟩⟩
  subst hx0 hx1 hx2 hx3
  unfold Dat.owesAt Pipeline.owesWithin
  icases Ho with ⟨%W, %hW, HO⟩
  rw [show (dats m ρ 0 c).owed t₀.castSucc = O₀ c from rfl]
  iapply (sound_body (sent m) K c (fun _ => bodyPost m ρ c) (inX m c) (inRW m c) (inRI m c) (inSW m c) (inEW m c) x4 g0 g1 f1 f2 f3 a0 a1 a2 b0 b1 b2 W (fun s => rfl))
  isplitl [Hi]; · iexact Hi
  isplitl [Hm]; · iexact Hm
  isplitl [Hl]; · iexact Hl
  isplitl [Hp]; · iexact Hp
  isplitl [Hd]; · iexact Hd
  isplitl [Hc]; · iexact Hc
  isplitl [Hx0]; · iexact Hx0
  isplitl [Hx1]; · iexact Hx1
  isplitl [Hx2]; · iexact Hx2
  isplitl [Hx3]; · iexact Hx3
  isplitl [Hew]; · iexact Hew
  isplitl [Hx4]; · iexact Hx4
  isplitl [Hw0]; · iexact Hw0
  isplitl [Hw1]; · iexact Hw1
  isplitl [Hs1]; · iexact Hs1
  isplitl [Hs2]; · iexact Hs2
  isplitl [Hs3]; · iexact Hs3
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [Hq0]; · iexact Hq0
  isplitl [Hq1]; · iexact Hq1
  isplitl [HO]; · iexact HO
  unfold bodyEnd bodyPost Φ₁ scratch Dat.owesAt Pipeline.owesWithin
  iintro ⟨Hx0, Hx1, Hx2, Hx3, Hew, Hx4, Hw0, Hw1, Hs1, Hs2, Hs3, Ha0, Ha1, Ha2, Hb0, Hb1, Hb2, Hq0, Hq1, Hz0, Hz1, Hz2, Hz3, Hz4, Hz5, Hz6, ⟨%W', HO⟩⟩
  rw [show (dats m ρ 0 c).owed t₀.succ = 0 from rfl]
  isplitl [Hew Hw0 Hw1 Hs1 Hs2 Hs3 Ha0 Ha1 Ha2 Hb0 Hb1 Hb2 Hq0 Hq1 Hz0 Hz1 Hz2 Hz3 Hz4 Hz5 Hz6]
  · isplitl [Hew]; · iexact Hew
    isplitl [Hw0 Hw1 Hs1 Hs2 Hs3 Ha0 Ha1 Ha2 Hb0 Hb1 Hb2]
    · isplitl [Hw0]; · iexact Hw0
      isplitl [Hw1]; · iexact Hw1
      isplitl [Hs1]; · iexact Hs1
      isplitl [Hs2]; · iexact Hs2
      isplitl [Hs3]; · iexact Hs3
      isplitl [Ha0]; · iexact Ha0
      isplitl [Ha1]; · iexact Ha1
      isplitl [Ha2]; · iexact Ha2
      isplitl [Hb0]; · iexact Hb0
      isplitl [Hb1]; · iexact Hb1
      iexact Hb2
    isplitl [Hq0]; · iexact Hq0
    isplitl [Hq1]; · iexact Hq1
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]
  · iexists W'
    isplitr; · ipureintro; exact fun _ _ => Or.inl trivial
    iexact HO
  isplitl [Hx0]; · iexists _; isplitr; · (ipureintro; rfl)
                   iexact Hx0
  isplitl [Hx1]; · iexists _; isplitr; · (ipureintro; rfl)
                   iexact Hx1
  isplitl [Hx2]; · iexists _; isplitr; · (ipureintro; rfl)
                   iexact Hx2
  isplitl [Hx3]; · iexists _; isplitr; · (ipureintro; rfl)
                   iexact Hx3
  iexists _; isplitr; · (ipureintro; rfl)
  iexact Hx4

set_option maxRecDepth 4000 in
/-- The library's body obligation on device `c`. -/
theorem body_obligation (c : Dev nD) : BodyObligation (dats (F := F) m ρ 0 c) (defs₀ (F := F)) 𝒱₀ false Set.univ := fun t => by
  rw [fin_N t]
  rw [bigSep_W0, bigSep_W0]
  simp only [owns_whole_eq]
  exact body_run m ρ c

end Cert.Moe

end
-- ==== Proof.Run.lean ====
/-
# The launch: every device's run, from the initial memory to the final one

The exchange's cells are set up once for the four devices, each device is dealt the duties it pays, and the four programs end with
each result at `outC`, the arguments as they were and every counter at zero.
-/
module

public import proofs.«01_k».proof.Proof.Launch
public import Idealize.ShloMosaic.Lib.Pipeline.CollectiveSegs
public import Idealize.ShloMosaic.Lib.Pipeline.Value
public import Idealize.ShloMosaic.Lib.Quiescent

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Bool (Elt F) ℕ UU ℕ

variable (m : (ℓ : Loc nD τ sig) → Buf (Elt F) ℓ) (ρ : Dev nD → PrngReg)

/-! ## The cells -/

/-- The kernel's own semaphores: the two of the weight copies, the three of the sends, the three of the receives. -/
abbrev osem : Fin 8 → SemLoc sig := fun
  | 0 => .dma wS0 | 1 => .dma wS1 | 2 => .dma sendS0 | 3 => .dma sendS1 | 4 => .dma sendS2 | 5 => .dma recvS0 | 6 => .dma recvS1 | 7 => .dma recvS2
  | ⟨_ + 8, h⟩ => absurd h (Nat.not_lt.2 (Nat.le_add_left _ _))
theorem ownSemFacts : Pipeline.OwnSemFacts spec0 osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := congrArg (fun g : GSem nD τ sig => g.1.1) h
  have h2 : csem k = csem k' := congrArg Prod.snd h
  have h3 := congrArg kindOf h2
  rw [kind_csem, kind_csem] at h3
  rw [h1, Option.some.inj h3]
def ringCells : Finset (GSem nD τ sig) := Finset.univ.map ⟨kcell, kcell_injective⟩

/-- A device's own cells' duties: its barrier's three, its three sends', its three receives'. -/
abbrev tokKD : Fin 9 → Fin 7 × Fin 3 := ![(0, 0), (0, 1), (0, 2), (1, 0), (2, 0), (3, 0), (4, 0), (5, 0), (6, 0)]
abbrev tokOf (cj : Dev nD × Fin 9) : GSem nD τ sig × ℕ × Fin 3 := (kcell (cj.1, (tokKD cj.2).1), 0, (tokKD cj.2).2)
theorem tokKD_injective : Function.Injective tokKD := by decide
theorem tokOf_injective : Function.Injective (tokOf : Dev nD × Fin 9 → GSem nD τ sig × ℕ × Fin 3) := by
  rintro ⟨c, j⟩ ⟨c', j'⟩ h
  have h1 := kcell_injective (congrArg Prod.fst h)
  have h2 : (tokKD j).2 = (tokKD j').2 := congrArg (fun x : GSem nD τ sig × ℕ × Fin 3 => x.2.2) h
  have h3 : (tokKD j).1 = (tokKD j').1 := congrArg Prod.snd h1
  have h4 : c = c' := congrArg Prod.fst h1
  rw [h4, tokKD_injective (Prod.ext h3 h2)]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

theorem u₀_split (a : UR sig nD τ) (b : UB) : (ownU ((a, (b, 1)) : UU) : sProp 𝕄) ⊢ iprop(BI.own (EP a) ∗ BI.own (ER b)) :=
  BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell 0 c) 0 (0 : Fin 3) ∗ dutyTok ER (sendCell 1 c) 0 (0 : Fin 3) ∗ dutyTok ER (sendCell 2 c) 0 (0 : Fin 3)
    ∗ dutyTok ER (recvCell 0 c) 0 (0 : Fin 3) ∗ dutyTok ER (recvCell 1 c) 0 (0 : Fin 3) ∗ dutyTok ER (recvCell 2 c) 0 (0 : Fin 3))

/-- What the launch element deals device `c`. -/
def G (c : Dev nD) : sProp 𝕄 :=
  iprop((bigSep Finset.univ fun k : Fin 7 => roundState ER (exch (sent m)) (kcell (c, k)) 0)
    ∗ (bigSep Finset.univ fun k : Fin 7 => iprop(atPos ER (kcell (c, k)) 0 ∅ 0 ∗ reached ER (kcell (c, k)) 0)) ∗ toks c)

/-- What the set-up makes of it. -/
def G' (c : Dev nD) : sProp 𝕄 := iprop(∃ K, ghost m K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (exch (sent m)) ringCells ringToks) $$ HX with ⟨Hst, Hr, Hat, Htok⟩
  imodintro
  ihave Hst' := (Entails.of_eq (hX fun g => roundState ER (exch (sent m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Bool) (Name := ℕ) (U := UU) (Lvl := ℕ) (Val := Elt F) (τ := τ) osem c : sProp 𝕄)
    = iprop(semVal ((c : Thread nD τ), .dma wS0) 0 ∗ semVal ((c : Thread nD τ), .dma wS1) 0
      ∗ semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The weight copies' two counters. -/
def wSems (c : Dev nD) : sProp 𝕄 := iprop(semVal ((c : Thread nD τ), .dma wS0) 0 ∗ semVal ((c : Thread nD τ), .dma wS1) 0)

theorem sems0_eq (c : Dev nD) :
    iprop(Pipeline.ownSems0 (Ix := Bool) (Name := ℕ) (U := UU) (Lvl := ℕ) (Val := Elt F) (τ := τ) osem c ∗ unscopedSems0 c)
      ⊢ (iprop(wSems c ∗ bigSep Finset.univ fun k : Fin 7 => semVal (kcell (c, k)) 0) : sProp 𝕄) := by
  rw [ownSems0_eq, unscopedSems0_eq, bigSep_fin7]
  unfold wSems
  iintro ⟨⟨H0, H1, H2, H3, H4, H5, H6, H7⟩, HB⟩
  isplitl [H0 H1]; · isplitl [H0] <;> iassumption
  isplitl [HB]; · iexact HB
  isplitl [H2]; · iexact H2
  isplitl [H3]; · iexact H3
  isplitl [H4]; · iexact H4
  isplitl [H5]; · iexact H5
  isplitl [H6] <;> iassumption

theorem core_alloc (c : Dev nD) :
    iprop(Pipeline.ownSems0 (Ix := Bool) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exch (sent m)) κ (kcell (c, k))))
          ∗ (bigSep Finset.univ fun k => iprop(atPos ER (kcell (c, k)) 0 ∅ 0 ∗ reached ER (kcell (c, k)) 0)) ∗ toks c ∗ wSems c) := by
  unfold G
  iintro ⟨Hos, Hus, Hst, Hat, Htok⟩
  ihave Hv' := (sems0_eq (F := F) c) $$ [Hos Hus]
  · isplitl [Hos] <;> iassumption
  icases Hv' with ⟨Hw, Hv⟩
  imod (show iprop((bigSep Finset.univ fun k : Fin 7 => semVal (kcell (c, k)) 0) ∗ bigSep Finset.univ fun k : Fin 7 => roundState ER (exch (sent m)) (kcell (c, k)) 0)
      ⊢ (|={Set.univ}=> bigSep Finset.univ fun k => iprop(∃ κ : ℕ, cellInv ER (exch (sent m)) κ (kcell (c, k))) : sProp 𝕄) from by
        rw [← bigSep_sep']
        exact (bigSep_mono fun k _ => (Rounds.body_intro ER (exch (sent m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

def records (K : Dev nD × Fin 7 → ℕ) : sProp 𝕄 :=
  iprop((bigSep Finset.univ fun ck : Dev nD × Fin 7 => cellInv ER (exch (sent m)) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (exch (sent m)) (K ck) (kcell ck) : sProp 𝕄)) ⊢ cellInv ER (exch (sent m)) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

def linear (c : Dev nD) : sProp 𝕄 := iprop(places c ∗ duesTok c ∗ wSems c)

theorem ghost_intro (K : Dev nD × Fin 7 → ℕ) (c : Dev nD) : iprop(records m K ∗ linear c) ⊢ G' m c := by
  unfold records linear wSems G' ghost invs marks
  iintro ⟨⟨#HI, #HR⟩, Hp, Ht, Hw0, Hw1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (sh 0 c, 0)); iexact HI
    isplitr; · iapply (inv_at m K (sh 1 c, 0)); iexact HI
    isplitr; · iapply (inv_at m K (sh 2 c, 0)); iexact HI
    isplitr; · iapply (inv_at m K (sh 0 c, 6)); iexact HI
    isplitr; · iapply (inv_at m K (sh 1 c, 5)); iexact HI
    iapply (inv_at m K (sh 2 c, 4)); iexact HI
  isplitr
  · isplitr; · iapply (reached_at (F := F) (sh 0 c, 0)); iexact HR
    isplitr; · iapply (reached_at (F := F) (sh 1 c, 0)); iexact HR
    isplitr; · iapply (reached_at (F := F) (sh 2 c, 0)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  isplitl [Hp]; · iexact Hp
  isplitl [Ht]; · iexact Ht
  isplitl [Hw0]; · iexact Hw0
  iexact Hw1

/-- The tokens dealt around: each device gets the duties it pays. -/
theorem toks_around : (bigSep Finset.univ fun c : Dev nD => (toks c : sProp 𝕄)) ⊢ bigSep Finset.univ fun c : Dev nD => duesTok c := by
  unfold toks duesTok
  simp only [bigSep_sep']
  rw [bigSep_univ_equiv (ring 0) (fun c : Dev nD => (dutyTok ER (barCell c) 0 (0 : Fin 3) : sProp 𝕄)),
    bigSep_univ_equiv (ring 1) (fun c : Dev nD => (dutyTok ER (barCell c) 0 (1 : Fin 3) : sProp 𝕄)),
    bigSep_univ_equiv (ring 2) (fun c : Dev nD => (dutyTok ER (barCell c) 0 (2 : Fin 3) : sProp 𝕄)),
    bigSep_univ_equiv (ring 2) (fun c : Dev nD => (dutyTok ER (recvCell 0 c) 0 (0 : Fin 3) : sProp 𝕄)),
    bigSep_univ_equiv (ring 1) (fun c : Dev nD => (dutyTok ER (recvCell 1 c) 0 (0 : Fin 3) : sProp 𝕄)),
    bigSep_univ_equiv (ring 0) (fun c : Dev nD => (dutyTok ER (recvCell 2 c) 0 (0 : Fin 3) : sProp 𝕄))]
  iintro ⟨H0, H1, H2, H3, H4, H5, H6, H7, H8⟩
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H7]; · iexact H7
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_eq : (bigSep Finset.univ fun c : Dev nD => bigSep Finset.univ fun k : Fin 7 => (atPos ER (kcell (c, k)) 0 ∅ 0 : sProp 𝕄))
    = bigSep Finset.univ fun c : Dev nD => places c :=
  bigSep_congr fun c _ => by unfold places; rw [bigSep_fin7]

theorem regroup :
    (bigSep Finset.univ fun c : Dev nD => iprop((bigSep Finset.univ fun k => iprop(∃ κ : ℕ, cellInv ER (exch (sent m)) κ (kcell (c, k))))
          ∗ (bigSep Finset.univ fun k => iprop(atPos ER (kcell (c, k)) 0 ∅ 0 ∗ reached ER (kcell (c, k)) 0)) ∗ toks c ∗ wSems c) : sProp 𝕄)
      ⊢ bigSep Finset.univ (G' m) := by
  rw [bigSep_sep', bigSep_sep', bigSep_sep', ← bigSep_univ_prod (fun ck : Dev nD × Fin 7 => iprop(∃ κ : ℕ, cellInv ER (exch (sent m)) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hw⟩
  ihave HK := (BI.bigSep_exists_pi Finset.univ (fun (ck : Dev nD × Fin 7) (κ : ℕ) => (cellInv ER (exch (sent m)) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    simp only [bigSep_sep']
    isplitl [Hat]
    · iapply (Entails.of_eq (places_eq (F := F)))
      iexact Hat
    isplitl [Htk]; · iexact Htk
    iexact Hw

/-- The set-up of every device's cells at once. -/
theorem glob : (bigSep Finset.univ fun c => iprop(Pipeline.ownSems0 (Ix := Bool) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

theorem kcell_iff {a b : Dev nD} {j k : Fin 7} : kcell (a, j) = kcell (b, k) ↔ a = b ∧ j = k :=
  ⟨fun h => ⟨congrArg Prod.fst (kcell_injective h), congrArg Prod.snd (kcell_injective h)⟩, fun ⟨h, h'⟩ => by rw [h, h']⟩

/-- What device `d` owes device `c`'s cell `k`. -/
theorem owed_at (d c : Dev nD) (k : Fin 7) (u : Bool) : O₀ d (kcell (c, k)) u =
    (if c = sh 2 d ∧ k = 4 ∧ u = true then N else 0) + (if c = sh 1 d ∧ k = 5 ∧ u = true then N else 0) + (if c = sh 0 d ∧ k = 6 ∧ u = true then N else 0)
    + (if c = sh 2 d ∧ k = 0 ∧ u = true then 1 else 0) + (if c = sh 1 d ∧ k = 0 ∧ u = true then 1 else 0) + (if c = sh 0 d ∧ k = 0 ∧ u = true then 1 else 0) := by
  have e (j : Fin 7) (b : Dev nD) (n : ℕ) : (tallyAt (kcell (b, j)) true n : CellTallies nD τ sig Bool) (kcell (c, k)) u = if c = b ∧ k = j ∧ u = true then n else 0 := by
    rw [tallyAt_apply]; simp only [kcell_iff, and_assoc]
  unfold O₀ OR
  simp only [Pi.add_apply, Finsupp.add_apply]
  have e0 := e 4 (sh 2 d) N; have e1 := e 5 (sh 1 d) N; have e2 := e 6 (sh 0 d) N
  have e3 := e 0 (sh 2 d) 1; have e4 := e 0 (sh 1 d) 1; have e5 := e 0 (sh 0 d) 1
  rw [← e0, ← e1, ← e2, ← e3, ← e4, ← e5]

theorem eq_sh (s : Fin 3) (c d : Dev nD) : c = sh s d ↔ d = sh (rev s) c :=
  ⟨fun h => by rw [h]; exact ((ring s).left_inv d).symm, fun h => by rw [h]; exact ((ring s).right_inv c).symm⟩

theorem sum_sh (s : Fin 3) (c : Dev nD) (p : Prop) [Decidable p] (n : ℕ) :
    (∑ d : Dev nD, if c = sh s d ∧ p then n else 0) = if p then n else 0 := by
  rw [Finset.sum_eq_single (sh (rev s) c)]
  · have : c = sh s (sh (rev s) c) := (eq_sh s c _).mpr rfl
    by_cases hp : p
    · rw [if_pos ⟨this, hp⟩, if_pos hp]
    · rw [if_neg (fun h => hp h.2), if_neg hp]
  · intro d _ hd; exact if_neg fun h => hd ((eq_sh s c d).mp h.1)
  · exact fun h => absurd (Finset.mem_univ _) h

theorem launch_at (c : Dev nD) (k : Fin 7) (n : ℕ) (hn : (if k = 4 then N else 0) + (if k = 5 then N else 0) + (if k = 6 then N else 0)
      + (if k = 0 then 1 else 0) + (if k = 0 then 1 else 0) + (if k = 0 then 1 else 0) = n) :
    tallyOn (kcell (c, k)) (launchCredit (Pipeline.owing O₀) 0 (kcell (c, k))) = (tallyAt (kcell (c, k)) true n : CellTallies nD τ sig Bool) := by
  unfold tallyAt; refine congrArg _ (Finsupp.ext fun u => ?_)
  rw [Pipeline.launchCredit_owing, Finset.sum_congr rfl fun d _ => owed_at d c k u]
  simp only [Finset.sum_add_distrib, sum_sh]
  cases u
  · rw [Finsupp.single_apply]; simp
  · rw [Finsupp.single_eq_same, ← hn]; simp

theorem creds_intro (c : Dev nD) : (Pipeline.launchCred O₀ c : sProp 𝕄) ⊢ creds c := by
  have e0 := launch_at c 0 3 (by decide)
  have e4 := launch_at c 4 N (by decide)
  have e5 := launch_at c 5 N (by decide)
  have e6 := launch_at c 6 N (by decide)
  have hc : (Pipeline.launchCred O₀ c : sProp 𝕄) ⊢ bigSep Finset.univ fun k : Fin 7 => cred (tallyOn (kcell (c, k)) (launchCredit (Pipeline.owing O₀) 0 (kcell (c, k)))) := by
    unfold Pipeline.launchCred
    refine BI.Entails.trans (bigSep_subset (Finset.subset_univ (Finset.univ.map ⟨fun k : Fin 7 => csem k, fun k k' h => by
      have h3 := congrArg kindOf h; rw [kind_csem, kind_csem] at h3; exact Option.some.inj h3⟩))) ?_
    rw [bigSep_map]
    exact BI.Entails.refl _
  rw [bigSep_fin7, e0, e4, e5, e6] at hc
  unfold creds
  iintro H
  ihave H' := hc $$ H
  icases H' with ⟨H0, -, -, -, H4, H5, H6⟩
  isplitl [H0]; · iexact H0
  isplitl [H4]; · iexact H4
  isplitl [H5]; · iexact H5
  iexact H6

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, ⟨%f0, H0⟩, H1, H2, H3, ⟨%f4, H4⟩, ⟨%f5, H5⟩⟩
  ihave H0' := (wb_deal (F := F) c f0) $$ H0
  ihave H4' := (send_deal (F := F) c f4) $$ H4
  ihave H5' := (recv_deal (F := F) c f5) $$ H5
  icases H0' with ⟨Ha0, Ha1⟩
  icases H4' with ⟨Hb0, Hb1, Hb2⟩
  icases H5' with ⟨Hc0, Hc1, Hc2⟩
  isplitl [Hs]; · iexact Hs
  isplitl [Ha0]; · iexists _; iexact Ha0
  isplitl [Ha1]; · iexists _; iexact Ha1
  isplitl [H1]; · iexact H1
  isplitl [H2]; · iexact H2
  isplitl [H3]; · iexact H3
  isplitl [Hb0]; · iexists _; iexact Hb0
  isplitl [Hb1]; · iexists _; iexact Hb1
  isplitl [Hb2]; · iexists _; iexact Hb2
  isplitl [Hc0]; · iexists _; iexact Hc0
  isplitl [Hc1]; · iexists _; iexact Hc1
  iexists _; iexact Hc2

/-- What is read off device `c` at the end: its barrier's counter at zero and the experts' weights. -/
def atEnd (c : Dev nD) : sProp 𝕄 := iprop(unscopedSems0 c ∗ (((c : Thread nD τ).loc main_arg3) ↦{fullShare} inEW m c))

theorem phi1_exit (c : Dev nD) :
    (dats m ρ 0 c).Φ (Fin.last cfg0.N) ⊢ iprop(atEnd m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratch atEnd
  rw [unscopedSems0_eq]
  iintro ⟨Hew, ⟨Ha0, Ha1, H1, H2, H3, Hb0, Hb1, Hb2, Hc0, Hc1, Hc2⟩, Hq0, Hq1, HB, Hz1, Hz2, Hz3, Hz4, Hz5, Hz6⟩
  ihave H0 := (wb_join (F := F) c) $$ [Ha0 Ha1]
  · isplitl [Ha0] <;> iassumption
  ihave H4 := (send_join (F := F) c) $$ [Hb0 Hb1 Hb2]
  · isplitl [Hb0]; · iexact Hb0
    isplitl [Hb1] <;> iassumption
  ihave H5 := (recv_join (F := F) c) $$ [Hc0 Hc1 Hc2]
  · isplitl [Hc0]; · iexact Hc0
    isplitl [Hc1] <;> iassumption
  isplitl [Hew HB]
  · isplitl [HB]; · iexact HB
    iexact Hew
  isplitl [Hq0 Hq1 Hz1 Hz2 Hz3 Hz4 Hz5 Hz6]
  · isplitl [Hq0]; · iexact Hq0
    isplitl [Hq1]; · iexact Hq1
    isplitl [Hz1]; · iexact Hz1
    isplitl [Hz2]; · iexact Hz2
    isplitl [Hz3]; · iexact Hz3
    isplitl [Hz4]; · iexact Hz4
    isplitl [Hz5] <;> iassumption
  isplitl [H0]; · iexact H0
  isplitl [H1]; · iexact H1
  isplitl [H2]; · iexact H2
  isplitl [H3]; · iexact H3
  isplitl [H4]; · iexact H4
  iexact H5

theorem waits (c : Dev nD) : (levAts L lv : sProp 𝕄) ⊢ Pipeline.cellsWaits cfgs (dats m ρ) false 0 c :=
  Pipeline.cellsWaits_intro cfgs (dats m ρ) false 0 c fun w s t =>
    mayWait_own c _ (by
      rcases t with ⟨_ | _, ht⟩
      · exact peer_O₀ c
      · exact Peer.zero)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg3) = m ((c : Thread nD τ).loc main_arg3)

set_option maxRecDepth 8000 in
/-- From any memory with zero counters every run ends, with each window's array at its final contents, the experts' weights as they were
    and every counter at zero. -/
theorem run_win : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) false cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (u₀_split (F := F) _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := atEnd m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg3) = m ((c : Thread nD τ).loc main_arg3))
    (hY := fun c s' => by
      unfold atEnd
      iintro ⟨⟨Hu, Hew⟩, -, HSI⟩
      icombine HSI Hew gives %h
      have h' := Buf.eq_of_forall_mem_univ h
      imod (Pipeline.unscopedSems0_read (X := unscopedSems0 c) (c := c) fupd_intro s') $$ [Hu HSI] with ⟨%h2, HSI⟩
      · isplitl [Hu] <;> iassumption
      imodintro
      isplitr; · ipureintro; exact ⟨h2, h'⟩
      iexact HSI)
    (hQ := fun _ h hs => ⟨fun c => ⟨fun w => (h c).1 w, (h c).2.2.2⟩, sem_eq_zero hs fun c => (h c).2.2.1⟩)

/-- An argument's array holds at the end what it held at the start. -/
theorem finalA_in (c : Dev nD) (w : Fin 5) (h : (cfg0.win w).isOut = false) : finalA m ρ c w = m ((cfg0.win w).arr.view.loc (c : Thread nD τ)) :=
  (dats (F := F) m ρ 0 c).arrAt_in w h _

/-- The result's array holds `outC`. -/
theorem finalA_out (c : Dev nD) : finalA m ρ c (4 : Fin 5) = outC m c := by
  have hz : (fun a => (win0_4.index (0 : Fin 1)) a * main_v1.ty.shape.size a) = fun _ => 0 := funext fun a => by fin_cases a <;> decide
  have hr := fun f => Memref.read_access_unit_zero (Elt F) main_v1 hz (fun a => by fin_cases a <;> decide) f
  have h : (win0_4.blk (0 : Fin 1)).view.read (Elt F) (finalA m ρ c (4 : Fin 5)) = outC m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from flush0_4 _, if_pos rfl]
    exact View.read_write_univ _ _
  exact (hr _).symm.trans h

/-- The run, buffer by buffer. -/
theorem run_main : θ_run defs (onTc (τ := τ) (main (F := F))) ⟨m, fun _ => 0, ρ⟩ (fun r =>
    (∀ c : Dev nD, r.2.mem ((c : Thread nD τ).loc main_v1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨((h.1 c).1 4).trans (finalA_out m ρ c), ((h.1 c).1 0).trans (finalA_in m ρ c 0 rfl),
    ((h.1 c).1 1).trans (finalA_in m ρ c 1 rfl), ((h.1 c).1 2).trans (finalA_in m ρ c 2 rfl), (h.1 c).2, ((h.1 c).1 3).trans (finalA_in m ρ c 3 rfl)⟩, h.2⟩) (run_win m ρ)

end Cert.Moe

end
-- ==== Proof.Count.lean ====
/-
# Running counts by doubling

The kernel counts down an axis by adding to a vector of zeros and ones a copy of itself moved down by 1, then by 2, by 4
and so on. After the step of width `w` each entry counts the last `2 * w` entries up to its own (`climb_win`); once the
window is as long as the axis, it is the count of all the entries up to its own (`win_all`).
-/
module

public import Idealize.ShloMosaic.Lib.Pointwise
public import Idealize.ShloMosaic.Lib.Pointwise.IndexVar

@[expose] public section

set_option maxRecDepth 16384

noncomputable section

namespace Cert.Moe

open Idealize.ShloMosaic

/-- A number as a value of the program. -/
abbrev num (n : ℕ) : EReal := ((n : ℝ) : EReal)

/-- Adding numbers, -/
theorem num_add (a b : ℕ) : num a + num b = num (a + b) := by unfold num; rw [← EReal.coe_add]; push_cast; rfl
/-- taking the smaller from the larger, -/
theorem num_sub {a b : ℕ} (h : b ≤ a) : num a - num b = num (a - b) := by unfold num; rw [← EReal.coe_sub, Nat.cast_sub h]
/-- multiplying them; -/
theorem num_mul (a b : ℕ) : num a * num b = num (a * b) := by unfold num; rw [← EReal.coe_mul]; push_cast; rfl
/-- zero -/
theorem num_zero : num 0 = 0 := by unfold num; simp
/-- and one. -/
theorem num_one : num 1 = 1 := by unfold num; simp

/-- A sum of numbers. -/
theorem num_sum {n : ℕ} (f : Fin n → ℕ) : ∑ i, num (f i) = num (∑ i, f i) := by
  induction n with
  | zero => simp [num]
  | succ n ih => rw [Fin.sum_univ_castSucc, Fin.sum_univ_castSucc, ih, num_add]

/-- A small number, made a word. -/
theorem num_word {n : ℕ} (h : n < 2 ^ 31) : Ideal.fptosi 32 (num n) = BitVec.ofNat 32 n := by
  unfold num Ideal.fptosi
  rw [Ideal.toIntClamped_coe, if_pos (Nat.cast_nonneg n), Int.floor_natCast, min_eq_right (by norm_num; omega), max_eq_right (by norm_num)]
  rw [BitVec.ofInt_natCast]

section
variable (P : ℕ → Prop) [DecidablePred P]

/-- How many of the last `w` numbers up to `t` have `P`. -/
def win (w t : ℕ) : ℕ := Nat.count P (t + 1) - Nat.count P (t + 1 - w)

/-- A window of one entry; -/
theorem win_one (t : ℕ) : win P 1 t = if P t then 1 else 0 := by
  unfold win; rw [Nat.add_sub_cancel, Nat.count_succ]; omega

/-- a window as long as the axis; -/
theorem win_all {w t : ℕ} (h : t < w) : win P w t = Nat.count P (t + 1) := by
  unfold win; rw [show t + 1 - w = 0 by omega, Nat.count_zero]; rfl

/-- a window twice as long is two windows. -/
theorem win_double (w t : ℕ) : win P (2 * w) t = win P w t + if w ≤ t then win P w (t - w) else 0 := by
  unfold win
  have h1 : Nat.count P (t + 1 - 2 * w) ≤ Nat.count P (t + 1 - w) := Nat.count_monotone P (by omega)
  have h2 : Nat.count P (t + 1 - w) ≤ Nat.count P (t + 1) := Nat.count_monotone P (by omega)
  split
  · next h => rw [show t - w + 1 = t + 1 - w by omega, show t + 1 - w - w = t + 1 - 2 * w by omega]; omega
  · next h => rw [show t + 1 - 2 * w = 0 by omega, show t + 1 - w = 0 by omega]; omega
end

/-- One step: the vector plus itself moved `s` rows down. -/
def climb {n b s r : ℕ} (hs : Shape.Slices (⟨2, ![n, b]⟩ : Shape) ![0, 0] ⟨2, ![r, b]⟩)
    (hc : Shape.Concatenates [(⟨2, ![s, b]⟩ : Shape), ⟨2, ![r, b]⟩] ⟨2, ![n, b]⟩ 0) (v : FVec Ideal ⟨2, ![n, b]⟩ .f32) : FVec Ideal ⟨2, ![n, b]⟩ .f32 :=
  addf v (concatenate ⟨2, ![n, b]⟩ 0 [⟨⟨2, ![s, b]⟩, broadcast ⟨2, ![s, b]⟩ (Scalar.ofBits (F := Ideal) .f32 0x00000000#32)⟩,
    ⟨⟨2, ![r, b]⟩, extractStridedSlice ⟨2, ![r, b]⟩ ![0, 0] v hs⟩] hc)

/-- A step turns counts over windows of `s` entries into counts over windows of `2 * s`. -/
theorem climb_win {n b s r : ℕ} (hs : Shape.Slices (⟨2, ![n, b]⟩ : Shape) ![0, 0] ⟨2, ![r, b]⟩)
    (hc : Shape.Concatenates [(⟨2, ![s, b]⟩ : Shape), ⟨2, ![r, b]⟩] ⟨2, ![n, b]⟩ 0) (v : FVec Ideal ⟨2, ![n, b]⟩ .f32)
    (P : Fin b → ℕ → Prop) [∀ e, DecidablePred (P e)] (h : ∀ t e, v (ix2 t e) = num (win (P e) s t)) (t : Fin n) (e : Fin b) :
    climb hs hc v (ix2 t e) = num (win (P e) (2 * s) t) := by
  rw [win_double]
  pointwise [climb]
  rw [h t e, ← num_add]
  congr 1
  by_cases hts : t.val < s
  · rw [dif_pos hts, if_neg (by omega), num_zero]
  · have hw : (if s ≤ t.val then win (P e) s (t.val - s) else 0) = win (P e) s (t.val - s) := if_pos (by omega)
    rw [dif_neg hts, hw]
    exact h ⟨t.val - s, _⟩ e

end Cert.Moe

end
-- ==== Proof.Bits.lean ====
/-
# The words and masks of the program, read as numbers and conditions
-/
module

public import proofs.«01_k».proof.Proof.Values
public import proofs.«01_k».proof.Proof.Count
public import Idealize.ShloMosaic.Lib.Routing.BitFacts

@[expose] public section

set_option maxRecDepth 16384

noncomputable section

namespace Cert.Moe

open Cert.KernelIdeal Cert.KernelIdeal.Gen
open Idealize.ShloMosaic

/-- The device's number, as a word. -/
theorem me_word (c : Dev nD) : me c = BitVec.ofNat 32 c.val := by revert c; decide

/-- Its first expert. -/
theorem me_first (c : Dev nD) : Scalar.muli (me c) 8#32 = BitVec.ofNat 32 (8 * c.val) := by revert c; decide

/-- The bit of an equality test. -/
theorem eq_bit {w : ℕ} (a b : BitVec w) : IntOp.cmpi .eq a b = BitVec.ofBool (decide (a = b)) := by
  unfold IntOp.cmpi
  exact congrArg BitVec.ofBool (Bool.beq_eq_decide_eq a b)

/-- Choosing one or zero by two conditions. -/
theorem pick_two (p q : Prop) [Decidable p] [Decidable q] :
    Scalar.select (IntOp.andi (BitVec.ofBool (decide p)) (BitVec.ofBool (decide q))) (1 : EReal) 0 = num (if p ∧ q then 1 else 0) := by
  unfold Scalar.select IntOp.andi
  by_cases hp : p <;> by_cases hq : q <;> simp [hp, hq, num]

/-- A condition, widened and made a number. -/
theorem widen_bit (p : Prop) [Decidable p] :
    FloatOps.sitofp (F := Ideal) FTy.f32 (BitVec.setWidth 32 (BitVec.ofBool (decide p))) = num (if p then 1 else 0) := by
  have e : ∀ b : BitVec 32, FloatOps.sitofp (F := Ideal) FTy.f32 b = ((b.toInt : ℝ) : EReal) := fun _ => rfl
  rw [e]
  by_cases hp : p <;> simp [hp, num]

/-- A small number, made a word as the program does it. -/
theorem word_num {n : ℕ} (h : n < 2 ^ 31) : FloatOps.fptosi (F := Ideal) (φ := .f32) 32 (num n) = BitVec.ofNat 32 n := num_word h

/-- A number is above zero as a value when it is above zero. -/
theorem pos_num (n : ℕ) : (0 : EReal) < num n ↔ 0 < n := by unfold num; rw [EReal.coe_pos, Nat.cast_pos]

/-- Small numbers are equal as words when they are equal. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A slot's expert, against an expert's distance from the device's first one. -/
theorem slot_expert (w : BitVec 32) (c : Dev nD) (s : ℕ) (hs : s < 1024) :
    IntOp.shrsi ArithUnit.vector (BitVec.ofNat 32 s) 7#32 = IntOp.subi w (Scalar.muli (me c) 8#32) ↔ w = BitVec.ofNat 32 (8 * c.val + s / 128) := by
  have h1 : IntOp.shrsi ArithUnit.vector (BitVec.ofNat 32 s) 7#32 = BitVec.ofNat 32 (s / 128) := by
    unfold IntOp.shrsi
    rw [if_pos (by decide)]
    apply BitVec.eq_of_toNat_eq
    have hm : (BitVec.ofNat 32 s).msb = false := Routing.msb_ofNat32 (by omega)
    rw [BitVec.sshiftRight_eq', BitVec.sshiftRight_eq_of_msb_false hm, BitVec.toNat_ushiftRight, BitVec.toNat_ofNat, BitVec.toNat_ofNat, BitVec.toNat_ofNat,
      Nat.mod_eq_of_lt (a := s) (by omega), Nat.mod_eq_of_lt (a := 7) (by decide), Nat.mod_eq_of_lt (a := s / 128) (by omega), Nat.shiftRight_eq_div_pow]
  rw [h1, me_first]
  unfold IntOp.subi
  rw [BitVec.ofNat_add]
  constructor
  · intro h; rw [h, BitVec.add_comm, BitVec.sub_add_cancel]
  · intro h; rw [h, BitVec.add_comm, BitVec.add_sub_cancel]

/-- A slot's place among its expert's slots. -/
theorem slot_place (s : ℕ) (hs : s < 1024) : IntOp.andi (BitVec.ofNat 32 s) 127#32 = BitVec.ofNat 32 (s % 128) := by
  unfold IntOp.andi
  apply BitVec.eq_of_toNat_eq
  rw [BitVec.toNat_and, BitVec.toNat_ofNat, BitVec.toNat_ofNat, BitVec.toNat_ofNat, Nat.mod_eq_of_lt (a := s) (by omega),
    Nat.mod_eq_of_lt (a := 127) (by omega), Nat.mod_eq_of_lt (a := s % 128) (by omega)]
  exact Nat.and_two_pow_sub_one_eq_mod s 7

/-- An expert's owner. -/
theorem owner_iff (w : BitVec 32) (k : ℕ) (hk : k < 4) : w.sshiftRight 3 = BitVec.ofNat 32 k ↔ ∃ e : Fin 8, w = BitVec.ofNat 32 (8 * k + e.val) := by
  have hk' : (BitVec.ofNat 32 k).toInt = k := WordCmp.toInt_ofNat_of_lt (w := 32) (by omega)
  have he : ∀ e : Fin 8, (BitVec.ofNat 32 (8 * k + e.val)).toInt = ((8 * k + e.val : ℕ) : ℤ) := fun e => WordCmp.toInt_ofNat_of_lt (w := 32) (by omega)
  rw [← BitVec.toInt_inj, BitVec.toInt_sshiftRight, Int.shiftRight_eq_div_pow, hk']
  constructor
  · intro h
    have h8 : w.toInt / 8 = k := h
    refine ⟨⟨(w.toInt - 8 * k).toNat, by omega⟩, ?_⟩
    rw [← BitVec.toInt_inj, he]
    push_cast
    omega
  · rintro ⟨e, h⟩
    rw [← BitVec.toInt_inj, he] at h
    rw [h]
    push_cast
    omega

end Cert.Moe

end
-- ==== Proof.Masks.lean ====
/-
# The routing matrices, entry by entry

Which token sits in which slot and in which packed row, as conditions on numbers: a token that chose expert
`8 * c + e` and has `r` earlier tokens with the same expert sits in slot `128 * e + r` of device `c` (`asg_at`), and
a token of block `j` whose expert is one of device `c`'s, with `d` such tokens before it in the block, is row `d` of what
device `c` packs for block `j` (`disp_at`).
-/
module

public import proofs.«01_k».proof.Proof.Bits
public import Idealize.ShloMosaic.Lib.Pointwise

@[expose] public section

set_option maxRecDepth 16384

noncomputable section

namespace Cert.Moe

open Cert.KernelIdeal Cert.KernelIdeal.Gen
open Idealize.ShloMosaic

/-- Token `t`'s expert, as the word the program reads. -/
def key (RI : Vec Ideal S2048x1 .i32) (t : ℕ) : BitVec 32 := if h : t < 2048 then RI (ix2 ⟨t, h⟩ 0) else 0
/-- The expert is the entry of the routing column. -/
theorem key_at (RI : Vec Ideal S2048x1 .i32) (t : Fin 2048) : key RI t.val = RI (ix2 t 0) := by unfold key; rw [dif_pos t.isLt]

/-- Token `t` chose expert `k`. -/
abbrev hits (RI : Vec Ideal S2048x1 .i32) (k : ℕ) (t : ℕ) : Prop := key RI t = BitVec.ofNat 32 k
/-- Token `t`'s expert is one of device `k`'s. -/
abbrev owned (RI : Vec Ideal S2048x1 .i32) (k : ℕ) (t : ℕ) : Prop := (key RI t).sshiftRight 3 = BitVec.ofNat 32 k

/-- A token chose at most one expert, -/
theorem hits_inj {RI : Vec Ideal S2048x1 .i32} {k k' t : ℕ} (hk : k < 2 ^ 32) (hk' : k' < 2 ^ 32) (h : hits RI k t) (h' : hits RI k' t) : k = k' :=
  (ofNat_inj hk hk').1 (h.symm.trans h')
/-- which is one of at most one device. -/
theorem owned_inj {RI : Vec Ideal S2048x1 .i32} {k k' t : ℕ} (hk : k < 2 ^ 32) (hk' : k' < 2 ^ 32) (h : owned RI k t) (h' : owned RI k' t) : k = k' :=
  (ofNat_inj hk hk').1 (h.symm.trans h')
/-- A device's tokens are those that chose one of its eight experts. -/
theorem owned_iff (RI : Vec Ideal S2048x1 .i32) {k : ℕ} (hk : k < 4) (t : ℕ) : owned RI k t ↔ ∃ e : Fin 8, hits RI (8 * k + e.val) t :=
  owner_iff _ _ hk

/-- How many earlier tokens of its block are the device's, too. -/
abbrev place (RI : Vec Ideal S2048x1 .i32) (k t : ℕ) : ℕ := Nat.count (owned RI k) t - Nat.count (owned RI k) (512 * (t / 512))

theorem count_le' (P : ℕ → Prop) [DecidablePred P] (t : ℕ) : Nat.count P t ≤ t := Nat.count_le _

variable (c : Dev nD) (RI : Vec Ideal S2048x1 .i32)

/-- The matrix of zeros and ones: a one where the token chose the device's expert `e`. -/
theorem onehot_at (t : Fin 2048) (e : Fin 8) : onehot c RI (ix2 t e) = num (if hits RI (8 * c.val + e.val) t then 1 else 0) := by
  pointwise [onehot, k0_pay4, k0_pay2]
  rw [me_first, eq_bit, widen_bit, ← key_at RI]
  unfold IntOp.addi
  rw [← BitVec.ofNat_add, Nat.add_comm e.val]

/-- The running counts are eleven steps of doubling. -/
theorem counts_eq : counts c RI =
    climb slices_S2048x8_o0_0_S1024x8 concatenates_S1024x8_S1024x8_S2048x8_d0 (climb slices_S2048x8_o0_0_S1536x8 concatenates_S512x8_S1536x8_S2048x8_d0
    (climb slices_S2048x8_o0_0_S1792x8 concatenates_S256x8_S1792x8_S2048x8_d0 (climb slices_S2048x8_o0_0_S1920x8 concatenates_S128x8_S1920x8_S2048x8_d0
    (climb slices_S2048x8_o0_0_S1984x8 concatenates_S64x8_S1984x8_S2048x8_d0 (climb slices_S2048x8_o0_0_S2016x8 concatenates_S32x8_S2016x8_S2048x8_d0
    (climb slices_S2048x8_o0_0_S2032x8 concatenates_S16x8_S2032x8_S2048x8_d0 (climb slices_S2048x8_o0_0_S2040x8 concatenates_S8x8_S2040x8_S2048x8_d0
    (climb slices_S2048x8_o0_0_S2044x8 concatenates_S4x8_S2044x8_S2048x8_d0 (climb slices_S2048x8_o0_0_S2046x8 concatenates_S2x8_S2046x8_S2048x8_d0
    (climb slices_S2048x8_o0_0_S2047x8 concatenates_S1x8_S2047x8_S2048x8_d0 (onehot c RI))))))))))) := rfl

/-- The running counts: how many tokens up to this one chose the expert. -/
theorem counts_at (t : Fin 2048) (e : Fin 8) : counts c RI (ix2 t e) = num (Nat.count (hits RI (8 * c.val + e.val)) (t.val + 1)) := by
  let P : Fin 8 → ℕ → Prop := fun e => hits RI (8 * c.val + e.val)
  have h0 : ∀ (t : Fin 2048) (e : Fin 8), onehot c RI (ix2 t e) = num (win (P e) 1 t.val) := fun t e => by rw [win_one]; exact onehot_at c RI t e
  have h1 := climb_win slices_S2048x8_o0_0_S2047x8 concatenates_S1x8_S2047x8_S2048x8_d0 _ P h0
  have h2 := climb_win slices_S2048x8_o0_0_S2046x8 concatenates_S2x8_S2046x8_S2048x8_d0 _ P h1
  have h3 := climb_win slices_S2048x8_o0_0_S2044x8 concatenates_S4x8_S2044x8_S2048x8_d0 _ P h2
  have h4 := climb_win slices_S2048x8_o0_0_S2040x8 concatenates_S8x8_S2040x8_S2048x8_d0 _ P h3
  have h5 := climb_win slices_S2048x8_o0_0_S2032x8 concatenates_S16x8_S2032x8_S2048x8_d0 _ P h4
  have h6 := climb_win slices_S2048x8_o0_0_S2016x8 concatenates_S32x8_S2016x8_S2048x8_d0 _ P h5
  have h7 := climb_win slices_S2048x8_o0_0_S1984x8 concatenates_S64x8_S1984x8_S2048x8_d0 _ P h6
  have h8 := climb_win slices_S2048x8_o0_0_S1920x8 concatenates_S128x8_S1920x8_S2048x8_d0 _ P h7
  have h9 := climb_win slices_S2048x8_o0_0_S1792x8 concatenates_S256x8_S1792x8_S2048x8_d0 _ P h8
  have h10 := climb_win slices_S2048x8_o0_0_S1536x8 concatenates_S512x8_S1536x8_S2048x8_d0 _ P h9
  have h11 := climb_win slices_S2048x8_o0_0_S1024x8 concatenates_S1024x8_S1024x8_S2048x8_d0 _ P h10
  rw [counts_eq, h11, win_all _ (by omega)]

/-- Of a token with expert `e`, the earlier tokens with the same expert, picked out of the eight counts. -/
theorem rank_sum (t : Fin 2048) (e : Fin 8) (h : hits RI (8 * c.val + e.val) t) :
    ∑ x : Fin 8, (counts c RI (ix2 t x) - onehot c RI (ix2 t x)) * onehot c RI (ix2 t x) = num (Nat.count (hits RI (8 * c.val + e.val)) t) := by
  have hc : c.val < 4 := c.isLt
  have hx : ∀ x : Fin 8, (counts c RI (ix2 t x) - onehot c RI (ix2 t x)) * onehot c RI (ix2 t x)
      = num (if x = e then Nat.count (hits RI (8 * c.val + e.val)) t else 0) := fun x => by
    rw [counts_at, onehot_at, Nat.count_succ, num_sub (by omega), num_mul, Nat.add_sub_cancel]
    by_cases hxe : x = e
    · subst hxe; rw [if_pos h, if_pos rfl, Nat.mul_one]
    · rw [if_neg hxe, if_neg, Nat.mul_zero]
      intro hx'
      have := hits_inj (by omega) (by omega) hx' h
      exact hxe (Fin.ext (by omega))
  rw [Finset.sum_congr rfl fun x _ => hx x, num_sum, Finset.sum_ite_eq' Finset.univ e, if_pos (Finset.mem_univ _)]

/-- Which token sits in which slot. -/
theorem asg_at (t : Fin 2048) (s : Fin 1024) : asg₀ c RI (ix2 t s)
    = num (if hits RI (8 * c.val + s.val / 128) t ∧ Nat.count (hits RI (8 * c.val + s.val / 128)) t = s.val % 128 then 1 else 0) := by
  have hc : c.val < 4 := c.isLt
  have e0 : asg₀ c RI = k0_pay9 (me c) (k0_pay2 RI) (onehot c RI) (k0_pay5 (me c) RI) k0_pay6 (k0_pay7 (me c) RI) := rfl
  have e1 : k0_pay8 (k0_pay5 (me c) RI) k0_pay6 (k0_pay7 (me c) RI) = counts c RI := rfl
  rw [e0]
  unfold k0_pay9
  rw [e1]
  pointwise [k0_pay2]
  rw [eq_bit, eq_bit, pick_two, slot_place s.val s.isLt, ← key_at RI]
  simp only [slot_expert (key RI t.val) c s.val s.isLt]
  congr 1
  refine if_congr (and_congr_right fun h => ?_) rfl rfl
  have hr : _ = num (Nat.count (hits RI (8 * c.val + s.val / 128)) t.val) := rank_sum c RI t ⟨s.val / 128, by omega⟩ h
  rw [hr]
  have hle := count_le' (hits RI (8 * c.val + s.val / 128)) t.val
  rw [word_num (by omega), ofNat_inj (by omega) (by omega)]
  exact eq_comm

/-- The device's tokens, out of its experts' tokens. -/
theorem owned_one (t : ℕ) : ∑ e : Fin 8, (if hits RI (8 * c.val + e.val) t then 1 else 0) = if owned RI c.val t then 1 else 0 := by
  have hc : c.val < 4 := c.isLt
  by_cases h : owned RI c.val t
  · obtain ⟨e, he⟩ := (owned_iff RI c.isLt t).1 h
    rw [if_pos h, Finset.sum_eq_single e, if_pos he]
    · intro x _ hxe
      rw [if_neg]
      intro hx
      have := hits_inj (by omega) (by omega) hx he
      exact hxe (Fin.ext (by omega))
    · intro hn; exact absurd (Finset.mem_univ e) hn
  · rw [if_neg h]
    refine Finset.sum_eq_zero fun x _ => if_neg fun hx => h ((owned_iff RI c.isLt t).2 ⟨x, hx⟩)

/-- The tokens before `t` that chose one of the device's experts, counted expert by expert. -/
theorem owned_count (t : ℕ) : ∑ e : Fin 8, Nat.count (hits RI (8 * c.val + e.val)) t = Nat.count (owned RI c.val) t := by
  induction t with
  | zero => simp only [Nat.count_zero]; exact Finset.sum_const_zero
  | succ t ih => simp only [Nat.count_succ, Finset.sum_add_distrib]; rw [ih, owned_one]

/-- A row of the matrix of ones sums to one exactly for the device's tokens. -/
theorem mine_at (t : Fin 2048) : ∑ x : Fin 8, onehot c RI (ix2 t x) = num (if owned RI c.val t then 1 else 0) := by
  rw [Finset.sum_congr rfl fun x _ => onehot_at c RI t x, num_sum, owned_one]

/-- A row's counts, without the token itself: how many earlier tokens are the device's. -/
theorem earlier_at (t : Fin 2048) : ∑ x : Fin 8, counts c RI (ix2 t x) - ∑ x : Fin 8, onehot c RI (ix2 t x) = num (Nat.count (owned RI c.val) t) := by
  rw [mine_at, Finset.sum_congr rfl fun x _ => counts_at c RI t x, num_sum, owned_count, Nat.count_succ, num_sub (by omega), Nat.add_sub_cancel]

/-- A token's place is counted from the first token of its block. -/
theorem packed_ladder (A B : FVec Ideal S2048x8 .f32) (t : Fin 2048) (d : Fin 192) (S : Fin 2048 → EReal)
    (hS : S = fun u => ∑ x : Fin 8, B (ix2 u x) - ∑ x : Fin 8, A (ix2 u x)) :
    k0_pay23 A B (ix2 t d) = Scalar.select (IntOp.andi (IntOp.cmpi CmpIPredicate.eq (BitVec.ofNat 32 d.val)
        (FloatOps.fptosi (F := Ideal) (φ := .f32) 32 (S t - S ⟨512 * (t.val / 512), by omega⟩)))
      (BitVec.ofBool (decide (0 < ∑ x : Fin 8, A (ix2 t x))))) 1 0 := by
  have step : ∀ u v : Fin 2048, u = t → v.val = 512 * (t.val / 512) → S u - S v = S t - S ⟨512 * (t.val / 512), by omega⟩ := fun u v hu hv => by
    rw [hu, show v = ⟨512 * (t.val / 512), by omega⟩ from Fin.ext hv]
  pointwise [k0_pay23]
  have main : ∀ x y : EReal, x = y →
      Scalar.select (IntOp.andi (IntOp.cmpi CmpIPredicate.eq (BitVec.ofNat 32 d.val) (FloatOps.fptosi (F := Ideal) (φ := .f32) 32 x))
        (BitVec.ofBool (decide (0 < ∑ x : Fin 8, A (ix2 t x))))) (1 : EReal) 0
      = Scalar.select (IntOp.andi (IntOp.cmpi CmpIPredicate.eq (BitVec.ofNat 32 d.val) (FloatOps.fptosi (F := Ideal) (φ := .f32) 32 y))
        (BitVec.ofBool (decide (0 < ∑ x : Fin 8, A (ix2 t x))))) 1 0 := by rintro x _ rfl; rfl
  apply main
  subst hS
  by_cases h1 : t.val < 512
  · rw [dif_pos h1]
    exact step t 0 rfl (by simp; omega)
  · rw [dif_neg h1]
    by_cases h2 : t.val - 512 < 512
    · rw [dif_pos h2]
      exact step ⟨512 + (t.val - 512), by omega⟩ 512 (Fin.ext (by simp; omega)) (by simp; omega)
    · rw [dif_neg h2]
      by_cases h3 : t.val - 512 - 512 < 512
      · rw [dif_pos h3]
        exact step ⟨1024 + (t.val - 512 - 512), by omega⟩ 1024 (Fin.ext (by simp; omega)) (by simp; omega)
      · rw [dif_neg h3]
        exact step ⟨1536 + (t.val - 512 - 512 - 512), by omega⟩ 1536 (Fin.ext (by simp; omega)) (by simp; omega)

/-- Which token of a block is which of the packed rows. -/
theorem disp_at (t : Fin 2048) (d : Fin 192) : disp c RI (ix2 t d) = num (if owned RI c.val t ∧ place RI c.val t = d.val then 1 else 0) := by
  have hc : c.val < 4 := c.isLt
  have hle : place RI c.val t.val ≤ t.val := (Nat.sub_le _ _).trans (count_le' (owned RI c.val) t.val)
  have h := packed_ladder (onehot c RI) (counts c RI) t d _ rfl
  have e : disp c RI = k0_pay23 (onehot c RI) (counts c RI) := rfl
  rw [e, h]
  have hp : num (Nat.count (owned RI c.val) t.val) - num (Nat.count (owned RI c.val) (512 * (t.val / 512))) = num (place RI c.val t.val) :=
    num_sub (Nat.count_monotone _ (by omega))
  have ho : (0 < if owned RI c.val t.val then 1 else 0) ↔ owned RI c.val t.val := by
    by_cases ho : owned RI c.val t.val
    · rw [if_pos ho]; exact ⟨fun _ => ho, fun _ => Nat.one_pos⟩
    · rw [if_neg ho]; exact ⟨fun h => absurd h (Nat.lt_irrefl 0), fun h => absurd h ho⟩
  simp only [earlier_at]
  rw [mine_at, hp, word_num (by omega), eq_bit, pick_two]
  congr 1
  refine if_congr ?_ rfl rfl
  rw [pos_num, ho, ofNat_inj (by omega) (by omega)]
  exact ⟨fun q => ⟨q.2, q.1.symm⟩, fun q => ⟨q.2.symm, q.1⟩⟩

end Cert.Moe

end
-- ==== Proof.Fits.lean ====
/-
# What the precondition says

`fits` holds on a device's arrays exactly when no expert is chosen by more than 128 tokens (`expert_le`) and no device's experts
by more than 192 tokens of another device's block (`block_le`).
-/
module

public import proofs.«01_k».proof.Proof.Masks
public import proofs.«01_k».proof.Pre_fits_KernelIdeal
public import Idealize.ShloMosaic.Lib.ReduceAll
public import Idealize.ShloMosaic.Lib.Routing.Count
public import Idealize.ShloMosaic.Lib.StableHlo.Predicate

@[expose] public section

set_option maxRecDepth 16384

noncomputable section

namespace Cert.Moe

open Idealize.ShloMosaic Idealize.ShloMosaic.Routing

/-- The sum of widened bits is how many are set. -/
theorem fold_bits {n : ℕ} (hn : n < 2 ^ 31) (b : Fin n → BitVec 1) (Q : ℕ → Prop) [DecidablePred Q] (hQ : ∀ i : Fin n, b i = 1#1 ↔ Q i.val) :
    Finset.fold IntOp.addi 0#32 (fun i => BitVec.setWidth 32 (b i)) Finset.univ = BitVec.ofNat 32 (Nat.count Q n) := by
  have hsum : ∑ i : Fin n, (BitVec.setWidth 32 (b i)).toNat = Nat.count Q n := by
    rw [← card_filter_fin n Q, Finset.card_filter]
    refine Finset.sum_congr rfl fun i _ => ?_
    rw [StableHlo.Predicate.toNat_setWidth_bit]
    exact if_congr (hQ i) rfl rfl
  have hle : Nat.count Q n ≤ n := Nat.count_le _
  apply BitVec.eq_of_toNat_eq
  rw [StableHlo.Predicate.toNat_fold_addi _ _ (by rw [hsum]; omega), hsum, BitVec.toNat_ofNat, Nat.mod_eq_of_lt (by omega)]

/-- The comparison of two small numbers. -/
theorem le_bit {a b : ℕ} (ha : a < 2 ^ 31) (hb : b < 2 ^ 31) : IntOp.cmpi .sle (BitVec.ofNat 32 a) (BitVec.ofNat 32 b) = 1#1 ↔ a ≤ b := by
  unfold IntOp.cmpi
  show BitVec.ofBool ((BitVec.ofNat 32 a).sle (BitVec.ofNat 32 b)) = 1#1 ↔ _
  rw [sle_ofNat32 ha hb]
  by_cases h : a ≤ b <;> simp [h]

/-- A word from `8 * k` up to `8 * k + 8`, read as a signed number, is one of the experts of device `k`. -/
theorem between_bit (w : BitVec 32) {k : ℕ} (hk : k < 4) :
    IntOp.andi (IntOp.cmpi .sge w (IntOp.muli 8#32 (BitVec.ofNat 32 k))) (IntOp.cmpi .slt w (IntOp.addi (IntOp.muli 8#32 (BitVec.ofNat 32 k)) 8#32)) = 1#1
      ↔ w.sshiftRight 3 = BitVec.ofNat 32 k := by
  have h1 : (IntOp.muli 8#32 (BitVec.ofNat 32 k)).toInt = 8 * k := by interval_cases k <;> decide
  have h2 : (IntOp.addi (IntOp.muli 8#32 (BitVec.ofNat 32 k)) 8#32).toInt = 8 * k + 8 := by interval_cases k <;> decide
  have hk' : (BitVec.ofNat 32 k).toInt = k := WordCmp.toInt_ofNat_of_lt (w := 32) (by omega)
  rw [IntOp.andi_eq_one, IntOp.cmpi_sge, IntOp.cmpi_slt, h1, h2, ← BitVec.toInt_inj, BitVec.toInt_sshiftRight, Int.shiftRight_eq_div_pow, hk']
  omega

variable [Cert.Pre_fits_KernelIdeal.Facts]

section
open Cert.Pre_fits_KernelIdeal

variable {X : FVec Ideal S2048x1024 .f32} {RW : FVec Ideal S1024x32 .f32} {RI : IVec S2048x1 32} {EW : FVec Ideal S8x1024x1024 .f32} {SW : FVec Ideal S1024x1024 .f32}
  (h : Cert.Pre_fits_KernelIdeal.fn X RW RI EW SW = fun _ => 1#1)
include h

/-- No expert is chosen by more than 128 tokens. -/
theorem expert_le (E : Fin 32) : Nat.count (hits RI E.val) 2048 ≤ 128 := by
  have h0 := congrFun h ix0
  unfold fn fn_part1 at h0
  rw [show ∀ (a b : IVec S_ 1), andi a b ix0 = IntOp.andi (a ix0) (b ix0) from fun _ _ => rfl, IntOp.andi_eq_one] at h0
  have h3 := Host.reduce_andi_all _ _ _ _ _ h0.1 (ix1 E)
  clear h0 h
  pointwise [] at h3
  have hle : Nat.count (hits RI E.val) 2048 ≤ 2048 := Nat.count_le _
  have hf := fold_bits (n := 2048) (by norm_num) (fun x => IntOp.cmpi .eq (RI (ix2 x 0)) (BitVec.ofNat 32 E.val)) (hits RI E.val) (fun i => by
    rw [IntOp.cmpi_eq]
    unfold hits
    rw [key_at])
  exact (le_bit (by omega) (by norm_num)).1 ((congrArg (fun z => IntOp.cmpi .sle z 128#32) hf).symm.trans h3)

/-- No device's experts are chosen by more than 192 tokens of another device's block. -/
theorem block_le {j k : Fin 4} (hjk : j ≠ k) :
    Nat.count (owned RI k.val) (j.val * 512 + 512) - Nat.count (owned RI k.val) (j.val * 512) ≤ 192 := by
  have h0 := congrFun h ix0
  unfold fn fn_part1 at h0
  rw [show ∀ (a b : IVec S_ 1), andi a b ix0 = IntOp.andi (a ix0) (b ix0) from fun _ _ => rfl, IntOp.andi_eq_one] at h0
  have h4 := Host.reduce_andi_all _ _ _ _ _ h0.2 (ix2 j k)
  clear h0 h
  pointwise [] at h4
  have hj : j.val < 4 := j.isLt
  have hle : Nat.count (fun x => owned RI k.val (j.val * 512 + x)) 512 ≤ 512 := Nat.count_le _
  have hf := fold_bits (n := 512) (by norm_num) (fun x : Fin 512 =>
      (IntOp.andi (IntOp.cmpi .sge (RI (ix2 ⟨j.val * 512 + x.val, by omega⟩ 0)) (IntOp.muli 8#32 (BitVec.ofNat 32 k.val)))
        (IntOp.cmpi .slt (RI (ix2 ⟨j.val * 512 + x.val, by omega⟩ 0)) (IntOp.addi (IntOp.muli 8#32 (BitVec.ofNat 32 k.val)) 8#32))))
    (fun x => owned RI k.val (j.val * 512 + x)) (fun i => by
      rw [between_bit _ k.isLt]
      show _ ↔ owned RI k.val (j.val * 512 + i.val)
      rw [← key_at RI])
  have h5 := (congrArg (fun z => IntOp.ori (IntOp.cmpi .sle z 192#32) (IntOp.cmpi .eq (BitVec.ofNat 32 j.val) (BitVec.ofNat 32 k.val))) hf).symm.trans h4
  have hne : IntOp.cmpi .eq (BitVec.ofNat 32 j.val) (BitVec.ofNat 32 k.val) = 0#1 := by
    rw [eq_bit, decide_eq_false fun he => hjk (Fin.ext ((ofNat_inj (by omega) (by omega)).1 he))]
    rfl
  have h6 : IntOp.cmpi .sle (BitVec.ofNat 32 (Nat.count (fun x => owned RI k.val (j.val * 512 + x)) 512)) 192#32 = 1#1 := by
    refine Eq.trans ?_ h5
    show _ = IntOp.ori _ _
    rw [hne]
    exact (BitVec.or_zero).symm
  rw [Nat.count_add, Nat.add_sub_cancel_left]
  exact (le_bit (by omega) (by norm_num)).1 h6
end

end Cert.Moe

end
-- ==== Proof.Owners.lean ====
/-
# The receiving side's matrices, entry by entry
-/
module

public import proofs.«01_k».proof.Proof.Masks
public import proofs.«01_k».proof.Proof.Exchange

@[expose] public section

set_option maxRecDepth 16384

noncomputable section

namespace Cert.Moe

open Cert.KernelIdeal Cert.KernelIdeal.Gen
open Idealize.ShloMosaic

variable (c : Dev nD) (RI : Vec Ideal S2048x1 .i32)

/-- The token of the device's own block in row `r`. -/
abbrev tok (c : Dev nD) (r : Fin 512) : Fin 2048 := ⟨512 * c.val + r.val, blk_lt c r⟩

/-- A one where device `k` owns the block's token `r`. -/
theorem owner_at (r : Fin 512) (k : Fin 4) : owner c RI (ix2 r k) = num (if owned RI k.val (tok c r).val then 1 else 0) := by
  pointwise [owner, k0_pay24, blk]
  rw [eq_bit, widen_bit]
  unfold owned
  rw [key_at RI (tok c r)]
  rfl

/-- The block's running counts are nine steps of doubling. -/
theorem before_eq : before c RI = subf
    (climb slices_S512x4_o0_0_S256x4 concatenates_S256x4_S256x4_S512x4_d0 (climb slices_S512x4_o0_0_S384x4 concatenates_S128x4_S384x4_S512x4_d0
    (climb slices_S512x4_o0_0_S448x4 concatenates_S64x4_S448x4_S512x4_d0 (climb slices_S512x4_o0_0_S480x4 concatenates_S32x4_S480x4_S512x4_d0
    (climb slices_S512x4_o0_0_S496x4 concatenates_S16x4_S496x4_S512x4_d0 (climb slices_S512x4_o0_0_S504x4 concatenates_S8x4_S504x4_S512x4_d0
    (climb slices_S512x4_o0_0_S508x4 concatenates_S4x4_S508x4_S512x4_d0 (climb slices_S512x4_o0_0_S510x4 concatenates_S2x4_S510x4_S512x4_d0
    (climb slices_S512x4_o0_0_S511x4 concatenates_S1x4_S511x4_S512x4_d0 (owner c RI)))))))))) (owner c RI) := rfl

/-- How many earlier tokens of the block device `k` owns. -/
theorem before_at (r : Fin 512) (k : Fin 4) : before c RI (ix2 r k) = num (place RI k.val (tok c r).val) := by
  let P : Fin 4 → ℕ → Prop := fun k u => owned RI k.val (512 * c.val + u)
  have h0 : ∀ (t : Fin 512) (e : Fin 4), owner c RI (ix2 t e) = num (win (P e) 1 t.val) := fun t e => by rw [win_one]; exact owner_at c RI t e
  have h1 := climb_win slices_S512x4_o0_0_S511x4 concatenates_S1x4_S511x4_S512x4_d0 _ P h0
  have h2 := climb_win slices_S512x4_o0_0_S510x4 concatenates_S2x4_S510x4_S512x4_d0 _ P h1
  have h3 := climb_win slices_S512x4_o0_0_S508x4 concatenates_S4x4_S508x4_S512x4_d0 _ P h2
  have h4 := climb_win slices_S512x4_o0_0_S504x4 concatenates_S8x4_S504x4_S512x4_d0 _ P h3
  have h5 := climb_win slices_S512x4_o0_0_S496x4 concatenates_S16x4_S496x4_S512x4_d0 _ P h4
  have h6 := climb_win slices_S512x4_o0_0_S480x4 concatenates_S32x4_S480x4_S512x4_d0 _ P h5
  have h7 := climb_win slices_S512x4_o0_0_S448x4 concatenates_S64x4_S448x4_S512x4_d0 _ P h6
  have h8 := climb_win slices_S512x4_o0_0_S384x4 concatenates_S128x4_S384x4_S512x4_d0 _ P h7
  have h9 := climb_win slices_S512x4_o0_0_S256x4 concatenates_S256x4_S256x4_S512x4_d0 _ P h8
  have hc : c.val < 4 := c.isLt
  have hb : Nat.count (P k) r.val = place RI k.val (tok c r).val := by
    show _ = Nat.count (owned RI k.val) (512 * c.val + r.val) - Nat.count (owned RI k.val) (512 * ((512 * c.val + r.val) / 512))
    rw [show (512 * c.val + r.val) / 512 = c.val by omega, Nat.count_add, Nat.add_sub_cancel_left]
  have hs : ∀ (a b : FVec Ideal S512x4 .f32), subf a b (ix2 r k) = a (ix2 r k) - b (ix2 r k) := fun _ _ => rfl
  rw [before_eq, hs, h9, win_all _ (by omega), h0, win_one, Nat.count_succ, num_sub (by omega), Nat.add_sub_cancel, hb]

/-- Picking one device's column out of four. -/
theorem column {k : Fin 4} (f : Fin 4 → ℕ) : ∑ x : Fin 4, num (f x) * num (if x = k then 1 else 0) = num (f k) := by
  have h : ∀ x : Fin 4, num (f x) * num (if x = k then 1 else 0) = num (if x = k then f x else 0) := fun x => by
    rw [num_mul]; congr 1; split <;> simp
  rw [Finset.sum_congr rfl fun x _ => h x, num_sum, Finset.sum_ite_eq' Finset.univ k, if_pos (Finset.mem_univ _)]

/-- The lane of a device. -/
theorem lane (w : BitVec 32) (k : Fin 4) (hw : w = BitVec.ofNat 32 k.val) (x : Fin 4) :
    FloatOps.sitofp (F := Ideal) FTy.f32 (BitVec.setWidth 32 (IntOp.cmpi CmpIPredicate.eq (BitVec.ofNat 32 x.val) w)) = num (if x = k then 1 else 0) := by
  subst hw
  rw [eq_bit, widen_bit]
  congr 1
  refine if_congr ?_ rfl rfl
  rw [ofNat_inj (by omega) (by omega), Fin.ext_iff]

/-- A row of the block out of the rows received from device `k`: the packed row at the token's place, if the token is the device's. -/
def picked (RI : Vec Ideal S2048x1 .i32) (k : ℕ) (t : ℕ) (R : Vec Ideal S192x1024 .f32) (h : Fin 1024) : EReal :=
  if hk : owned RI k t ∧ place RI k t < 192 then R (ix2 ⟨place RI k t, hk.2⟩ h) else 0

/-- A received slot multiplied by its mask: the row of the token's place, or nothing. -/
theorem pick_row (k : Fin 4) (r : Fin 512) (R : Vec Ideal S192x1024 .f32) (h : Fin 1024) (w : BitVec 32) (hw : w = BitVec.ofNat 32 k.val) :
    ∑ d : Fin 192, Scalar.select (IntOp.andi (IntOp.cmpi CmpIPredicate.eq (BitVec.ofNat 32 d.val)
        (FloatOps.fptosi (F := Ideal) (φ := .f32) 32 (∑ x : Fin 4, before c RI (ix2 r x) *
          FloatOps.sitofp (F := Ideal) FTy.f32 (BitVec.setWidth 32 (IntOp.cmpi CmpIPredicate.eq (BitVec.ofNat 32 x.val) w)))))
      (BitVec.ofBool (decide (0 < ∑ x : Fin 4, owner c RI (ix2 r x) *
          FloatOps.sitofp (F := Ideal) FTy.f32 (BitVec.setWidth 32 (IntOp.cmpi CmpIPredicate.eq (BitVec.ofNat 32 x.val) w)))))) 1 0 * R (ix2 d h)
    = picked RI k.val (tok c r).val R h := by
  have hc : c.val < 4 := c.isLt
  have hle : place RI k.val (tok c r).val ≤ (tok c r).val := (Nat.sub_le _ _).trans (count_le' (owned RI k.val) (tok c r).val)
  have hb : ∑ x : Fin 4, before c RI (ix2 r x) *
          FloatOps.sitofp (F := Ideal) FTy.f32 (BitVec.setWidth 32 (IntOp.cmpi CmpIPredicate.eq (BitVec.ofNat 32 x.val) w))
        = num (place RI k.val (tok c r).val) := by
    rw [← column (k := k) fun x => place RI x.val (tok c r).val]
    exact Finset.sum_congr rfl fun x _ => by rw [lane w k hw, before_at]
  have ho : ∑ x : Fin 4, owner c RI (ix2 r x) *
          FloatOps.sitofp (F := Ideal) FTy.f32 (BitVec.setWidth 32 (IntOp.cmpi CmpIPredicate.eq (BitVec.ofNat 32 x.val) w))
        = num (if owned RI k.val (tok c r).val then 1 else 0) := by
    rw [← column (k := k) fun x => if owned RI x.val (tok c r).val then 1 else 0]
    exact Finset.sum_congr rfl fun x _ => by rw [lane w k hw, owner_at]
  have hd : ∀ d : Fin 192, Scalar.select (IntOp.andi (IntOp.cmpi CmpIPredicate.eq (BitVec.ofNat 32 d.val)
        (FloatOps.fptosi (F := Ideal) (φ := .f32) 32 (num (place RI k.val (tok c r).val))))
      (BitVec.ofBool (decide (0 < num (if owned RI k.val (tok c r).val then 1 else 0))))) (1 : EReal) 0 * R (ix2 d h)
      = if owned RI k.val (tok c r).val ∧ place RI k.val (tok c r).val = d.val then R (ix2 d h) else 0 := fun d => by
    have hi : (BitVec.ofNat 32 d.val = BitVec.ofNat 32 (place RI k.val (tok c r).val) ∧ 0 < num (if owned RI k.val (tok c r).val then 1 else 0))
        ↔ (owned RI k.val (tok c r).val ∧ place RI k.val (tok c r).val = d.val) := by
      rw [pos_num, ofNat_inj (by omega) (by omega)]
      by_cases h1 : owned RI k.val (tok c r).val
      · rw [if_pos h1]; exact ⟨fun q => ⟨h1, q.1.symm⟩, fun q => ⟨q.2.symm, Nat.one_pos⟩⟩
      · rw [if_neg h1]; exact ⟨fun q => absurd q.2 (Nat.lt_irrefl 0), fun q => absurd q.1 h1⟩
    rw [word_num (by omega), eq_bit, pick_two, if_congr hi rfl rfl]
    split
    · rw [num_one, one_mul]
    · rw [num_zero, zero_mul]
  rw [hb, ho, Finset.sum_congr rfl fun d _ => hd d]
  unfold picked
  by_cases hk : owned RI k.val (tok c r).val ∧ place RI k.val (tok c r).val < 192
  · rw [dif_pos hk, Finset.sum_eq_single ⟨place RI k.val (tok c r).val, hk.2⟩, if_pos ⟨hk.1, rfl⟩]
    · intro d _ hd'
      exact if_neg fun q => hd' (Fin.ext q.2.symm)
    · intro hn; exact absurd (Finset.mem_univ _) hn
  · rw [dif_neg hk]
    exact Finset.sum_eq_zero fun d _ => if_neg fun q => hk ⟨q.1, by rw [q.2]; exact d.isLt⟩

variable (X : Vec Ideal S2048x1024 .f32) (RW : Vec Ideal S1024x32 .f32) (EW : Vec Ideal S8x1024x1024 .f32) (SW : Vec Ideal S1024x1024 .f32)
  (R : Fin 3 → Vec Ideal S192x1024 .f32)

/-- After slot 2: the row that came from device `sh 2 c` is added. -/
theorem res₁_at (r : Fin 512) (h : Fin 1024) : res₁ c X RW RI EW SW R (ix2 r h) = res₀ c X RW RI EW SW (ix2 r h) + picked RI (sh 2 c).val (tok c r).val (R 2) h := by
  rw [← pick_row c RI (sh 2 c) r (R 2) h (Scalar.remsi (Scalar.addi (Scalar.addi (me c) 2#32) 1#32) 4#32) (by revert c; decide)]
  pointwise [res₁, k0_pay34, k0_pay32, k0_pay33, k0_pay31]

/-- After slot 1. -/
theorem res₂_at (r : Fin 512) (h : Fin 1024) : res₂ c X RW RI EW SW R (ix2 r h) = res₁ c X RW RI EW SW R (ix2 r h) + picked RI (sh 1 c).val (tok c r).val (R 1) h := by
  rw [← pick_row c RI (sh 1 c) r (R 1) h (Scalar.remsi (Scalar.addi (Scalar.addi (me c) 1#32) 1#32) 4#32) (by revert c; decide)]
  pointwise [res₂, k0_pay36, k0_pay35]

/-- After slot 0. -/
theorem res_at (r : Fin 512) (h : Fin 1024) : res c X RW RI EW SW R (ix2 r h) = res₂ c X RW RI EW SW R (ix2 r h) + picked RI (sh 0 c).val (tok c r).val (R 0) h := by
  rw [← pick_row c RI (sh 0 c) r (R 0) h (Scalar.remsi (Scalar.addi (Scalar.addi (me c) 0#32) 1#32) 4#32) (by revert c; decide)]
  pointwise [res, k0_pay37]

end Cert.Moe

end
-- ==== Proof.Rows.lean ====
/-
# The experts' rows and the packed rows, at a token

A token whose expert is one of the device's, with fewer than 128 earlier tokens of the same expert, has a slot: there the
device holds the token's row, its probability, and so its expert's answer (`rowsY_slot`). That row of the answers is what
the assignment matrix gives back at the token (`own_row`), and what the token's packed row holds (`packed_row`).
-/
module

public import proofs.«01_k».proof.Proof.Masks

@[expose] public section

set_option maxRecDepth 16384

noncomputable section

namespace Cert.Moe

open Cert.KernelIdeal Cert.KernelIdeal.Gen
open Idealize.ShloMosaic

/-- A sum with weights zero and one, the one at a single place. -/
theorem select_sum {n : ℕ} (p : Fin n → Prop) [DecidablePred p] (i₀ : Fin n) (h₀ : p i₀) (hu : ∀ i, p i → i = i₀) (f : Fin n → EReal) :
    ∑ i, num (if p i then 1 else 0) * f i = f i₀ := by
  rw [Finset.sum_eq_single i₀, if_pos h₀, num_one, one_mul]
  · intro i _ hi; rw [if_neg fun h => hi (hu i h), num_zero, zero_mul]
  · intro hn; exact absurd (Finset.mem_univ _) hn

/-- The same, with no one. -/
theorem select_none {n : ℕ} (p : Fin n → Prop) [DecidablePred p] (hn : ∀ i, ¬p i) (f : Fin n → EReal) :
    ∑ i, num (if p i then 1 else 0) * f i = 0 :=
  Finset.sum_eq_zero fun i _ => by rw [if_neg (hn i), num_zero, zero_mul]

variable (c : Dev nD) (X : Vec Ideal S2048x1024 .f32) (RW : Vec Ideal S1024x32 .f32) (RI : Vec Ideal S2048x1 .i32) (EW : Vec Ideal S8x1024x1024 .f32)

/-- Token `t` sits in slot `s`. -/
abbrev sits (t s : ℕ) : Prop := hits RI (8 * c.val + s / 128) t ∧ Nat.count (hits RI (8 * c.val + s / 128)) t = s % 128

/-- The slot of a token of the device's expert `e`. -/
abbrev slot (e : Fin 8) (t : ℕ) : ℕ := 128 * e.val + Nat.count (hits RI (8 * c.val + e.val)) t

section
variable {c RI}
/-- The slot of a token with fewer than 128 before it is one of the device's slots. -/
theorem slot_lt {e : Fin 8} {t : ℕ} (hr : Nat.count (hits RI (8 * c.val + e.val)) t < 128) : slot c RI e t < 1024 := by unfold slot; omega
/-- The token sits in its slot. -/
theorem sits_slot {e : Fin 8} {t : ℕ} (h : hits RI (8 * c.val + e.val) t) (hr : Nat.count (hits RI (8 * c.val + e.val)) t < 128) : sits c RI t (slot c RI e t) := by
  have hd : slot c RI e t / 128 = e.val := by unfold slot; omega
  have hm : slot c RI e t % 128 = Nat.count (hits RI (8 * c.val + e.val)) t := by unfold slot; omega
  unfold sits
  rw [hd, hm]
  exact ⟨h, rfl⟩
/-- A slot holds one token at most, -/
theorem sits_inj {t t' s : ℕ} (h : sits c RI t s) (h' : sits c RI t' s) : t = t' := Nat.count_injective h.1 h'.1 (h.2.trans h'.2.symm)
/-- and a token sits in its own slot only. -/
theorem sits_eq {e : Fin 8} {t s : ℕ} (hs : s < 1024) (h : hits RI (8 * c.val + e.val) t) (q : sits c RI t s) : s = slot c RI e t := by
  have hc : c.val < 4 := c.isLt
  have he : 8 * c.val + s / 128 = 8 * c.val + e.val := hits_inj (by omega) (by omega) q.1 h
  have q2 := q.2
  rw [he] at q2
  unfold slot
  omega
/-- A token that is not the device's sits nowhere. -/
theorem sits_none {t s : ℕ} (hs : s < 1024) (hn : ¬owned RI c.val t) : ¬sits c RI t s := fun q =>
  hn ((owned_iff RI c.isLt t).2 ⟨⟨s / 128, by omega⟩, q.1⟩)
end

/-- The matrix as stored is the matrix as computed. -/
theorem asg_cast : asg c RI = asg₀ c RI := by
  funext i; idx_vars i; pointwise [asg, k0_pay10]

/-- A slot's row of the tokens, as a sum over the tokens. -/
theorem slotX_at (s : Fin 1024) (k : Fin 1024) : slotX c X RI (ix2 s k) = ∑ t : Fin 2048, num (if sits c RI t s then 1 else 0) * X (ix2 t k) := by
  have h : slotX c X RI (ix2 s k) = ∑ t : Fin 2048, asg₀ c RI (ix2 t s) * X (ix2 t k) := by pointwise [slotX, k0_pay11]
  rw [h]; exact Finset.sum_congr rfl fun t _ => by rw [asg_at]

/-- A slot's probability, as a sum over the tokens. -/
theorem slotP_at (s : Fin 1024) : slotP c X RW RI (ix2 s 0) = ∑ t : Fin 2048, num (if sits c RI t s then 1 else 0) * prob X RW RI (ix2 t 0) := by
  have h : slotP c X RW RI (ix2 s 0) = ∑ t : Fin 2048, asg₀ c RI (ix2 t s) * prob X RW RI (ix2 t 0) := by pointwise [slotP, k0_pay12]
  rw [h]; exact Finset.sum_congr rfl fun t _ => by rw [asg_at]

/-- An expert's rows of answers: the slot's probability times the slot's row times the expert's weights. -/
theorem rowsE_at (e : Fin 8) (r : Fin 128) (h : Fin 1024) : rowsE c X RW RI EW e (ix2 r h)
    = slotP c X RW RI (ix2 ⟨128 * e.val + r.val, by omega⟩ 0) * ∑ k : Fin 1024, slotX c X RI (ix2 ⟨128 * e.val + r.val, by omega⟩ k) * EW (ix3 e k h) := by
  have h0 : rowsE c X RW RI EW 0 = k0_pay13 (prob X RW RI) (asg₀ c RI) X (wgt₁ EW 0) := rfl
  have hP : k0_pay12 (prob X RW RI) (asg₀ c RI) = slotP c X RW RI := rfl
  have hX : k0_pay11 (asg₀ c RI) X = slotX c X RI := rfl
  match e with
  | 0 => rw [h0]; unfold k0_pay13; rw [hP, hX]; pointwise [wgt₁, wgt]; try (simp only [Nat.zero_add, Nat.mul_zero]); try rfl
  | 1 => pointwise [rowsE, k0_pay14, wgt₁, wgt]; try rfl
  | 2 => pointwise [rowsE, k0_pay15, wgt₁, wgt]; try rfl
  | 3 => pointwise [rowsE, k0_pay18, k0_pay16, k0_pay17, wgt₁, wgt]; try rfl
  | 4 => pointwise [rowsE, k0_pay19, wgt₁, wgt]; try rfl
  | 5 => pointwise [rowsE, k0_pay20, wgt₁, wgt]; try rfl
  | 6 => pointwise [rowsE, k0_pay21, wgt₁, wgt]; try rfl
  | 7 => pointwise [rowsE, k0_pay22, wgt₁, wgt]; try rfl

/-- What a device answers for a token of its expert `e`. -/
def answer (e : Fin 8) (t : Fin 2048) (h : Fin 1024) : EReal := prob X RW RI (ix2 t 0) * ∑ k : Fin 1024, X (ix2 t k) * EW (ix3 e k h)

/-- The row of the answers in the token's slot. -/
theorem rowsY_slot (e : Fin 8) (t : Fin 2048) (h : Fin 1024) (he : hits RI (8 * c.val + e.val) t) (hr : Nat.count (hits RI (8 * c.val + e.val)) t < 128) :
    rowsY c X RW RI EW (ix2 ⟨slot c RI e t, slot_lt hr⟩ h) = answer X RW RI EW e t h := by
  have hP : slotP c X RW RI (ix2 ⟨slot c RI e t, slot_lt hr⟩ 0) = prob X RW RI (ix2 t 0) := by
    rw [slotP_at]
    exact select_sum (fun u : Fin 2048 => sits c RI u (slot c RI e t)) t (sits_slot he hr) (fun u hu => Fin.ext (sits_inj hu (sits_slot he hr))) _
  have hX : ∀ k, slotX c X RI (ix2 ⟨slot c RI e t, slot_lt hr⟩ k) = X (ix2 t k) := fun k => by
    rw [slotX_at]
    exact select_sum (fun u : Fin 2048 => sits c RI u (slot c RI e t)) t (sits_slot he hr) (fun u hu => Fin.ext (sits_inj hu (sits_slot he hr))) fun u => X (ix2 u k)
  have hE : (⟨slot c RI e t / 128, by have := slot_lt hr; omega⟩ : Fin 8) = e := Fin.ext (by show (128 * e.val + _) / 128 = _; omega)
  have hY : rowsY c X RW RI EW (ix2 ⟨slot c RI e t, slot_lt hr⟩ h)
      = rowsE c X RW RI EW ⟨slot c RI e t / 128, by have := slot_lt hr; omega⟩ (ix2 ⟨slot c RI e t % 128, Nat.mod_lt _ (by decide)⟩ h) := rfl
  rw [hY, hE, rowsE_at]
  have hs : (⟨128 * e.val + slot c RI e t % 128, by omega⟩ : Fin 1024) = ⟨slot c RI e t, slot_lt hr⟩ := Fin.ext (by show 128 * e.val + (128 * e.val + _) % 128 = 128 * e.val + _; omega)
  show slotP c X RW RI (ix2 (⟨128 * e.val + slot c RI e t % 128, by omega⟩ : Fin 1024) 0)
    * ∑ k : Fin 1024, slotX c X RI (ix2 (⟨128 * e.val + slot c RI e t % 128, by omega⟩ : Fin 1024) k) * EW (ix3 e k h) = _
  rw [hs, hP]
  unfold answer
  congr 1
  exact Finset.sum_congr rfl fun k _ => by rw [hX]

/-- The assignment matrix at a token of the device gives its answer back, -/
theorem own_row (e : Fin 8) (t : Fin 2048) (h : Fin 1024) (he : hits RI (8 * c.val + e.val) t) (hr : Nat.count (hits RI (8 * c.val + e.val)) t < 128) :
    ∑ s : Fin 1024, asg c RI (ix2 t s) * rowsY c X RW RI EW (ix2 s h) = answer X RW RI EW e t h := by
  rw [← rowsY_slot c X RW RI EW e t h he hr, asg_cast, Finset.sum_congr rfl fun s _ => by rw [asg_at]]
  exact select_sum (fun s : Fin 1024 => sits c RI t s) ⟨slot c RI e t, slot_lt hr⟩ (sits_slot he hr) (fun s hs => Fin.ext (sits_eq s.isLt he hs))
    fun s => rowsY c X RW RI EW (ix2 s h)

/-- and at any other token zero. -/
theorem own_none (t : Fin 2048) (h : Fin 1024) (hn : ¬owned RI c.val t) :
    ∑ s : Fin 1024, asg c RI (ix2 t s) * rowsY c X RW RI EW (ix2 s h) = 0 := by
  rw [asg_cast, Finset.sum_congr rfl fun s _ => by rw [asg_at]]
  exact select_none (fun s : Fin 1024 => sits c RI t s) (fun s => sits_none s.isLt hn) fun s => rowsY c X RW RI EW (ix2 s h)

/-- Two tokens of one block with one place are the same token. -/
theorem place_inj {RI : Vec Ideal S2048x1 .i32} {k t u : ℕ} (ht : owned RI k t) (hu : owned RI k u) (hb : t / 512 = u / 512) (hp : place RI k t = place RI k u) : t = u := by
  refine Nat.count_injective ht hu ?_
  have h1 : Nat.count (owned RI k) (512 * (t / 512)) ≤ Nat.count (owned RI k) t := Nat.count_monotone _ (by omega)
  have h2 : Nat.count (owned RI k) (512 * (u / 512)) ≤ Nat.count (owned RI k) u := Nat.count_monotone _ (by omega)
  unfold place at hp
  rw [hb] at hp h1
  omega

/-- The packed row at a token's place holds the device's answer for the token. -/
theorem packed_row (j : Fin 4) (r : Fin 512) (d : Fin 192) (h : Fin 1024) (e : Fin 8) (he : hits RI (8 * c.val + e.val) (512 * j.val + r.val))
    (hr : Nat.count (hits RI (8 * c.val + e.val)) (512 * j.val + r.val) < 128) (hd : place RI c.val (512 * j.val + r.val) = d.val) :
    packed c j X RW RI EW (ix2 d h) = answer X RW RI EW e ⟨512 * j.val + r.val, blk_lt j r⟩ h := by
  have ho : owned RI c.val (512 * j.val + r.val) := (owned_iff RI c.isLt _).2 ⟨e, he⟩
  have hpk : packed c j X RW RI EW (ix2 d h)
      = ∑ s : Fin 1024, (∑ u : Fin 512, disp c RI (ix2 ⟨512 * j.val + u.val, blk_lt j u⟩ d) * asg c RI (ix2 ⟨512 * j.val + u.val, blk_lt j u⟩ s)) * rowsY c X RW RI EW (ix2 s h) := by
    pointwise [packed, k0_pay26, blk]
  have hrow : ∀ s : Fin 1024, ∑ u : Fin 512, disp c RI (ix2 ⟨512 * j.val + u.val, blk_lt j u⟩ d) * asg c RI (ix2 ⟨512 * j.val + u.val, blk_lt j u⟩ s)
      = asg c RI (ix2 ⟨512 * j.val + r.val, blk_lt j r⟩ s) := fun s => by
    rw [Finset.sum_congr rfl fun u _ => by rw [disp_at]]
    refine select_sum (fun u : Fin 512 => owned RI c.val (512 * j.val + u.val) ∧ place RI c.val (512 * j.val + u.val) = d.val) r ⟨ho, hd⟩ (fun u hu => Fin.ext ?_)
      fun u : Fin 512 => asg c RI (ix2 ⟨512 * j.val + u.val, blk_lt j u⟩ s)
    have := place_inj hu.1 ho (by omega) (hu.2.trans hd.symm)
    omega
  rw [hpk, Finset.sum_congr rfl fun s _ => by rw [hrow s]]
  exact own_row c X RW RI EW e ⟨512 * j.val + r.val, blk_lt j r⟩ h he hr

end Cert.Moe

end
-- ==== Proof.RefValue.lean ====
/-
# The reference's value

The reference at a token and a column: the shared product, and over the 32 experts the token's probability times the expert's
product where the token chose that expert (`refOut_at`). The kernel's probability of a token is the reference's, of the expert
the token chose (`prob_at`).
-/
module

public import proofs.«01_k».proof.Proof.Masks
public import proofs.«01_k».proof.Proof.Gen.ReferenceIdeal
public import Idealize.ShloMosaic.Lib.Pointwise

@[expose] public section

set_option maxRecDepth 16384

noncomputable section

namespace Cert.Moe

open Idealize.ShloMosaic

section
open Cert.ReferenceIdeal Cert.ReferenceIdeal.Gen

/-- The reference's probabilities. -/
def refProb (X : FVec Ideal S2048x1024 .f32) (RW : FVec Ideal S1024x32 .f32) : FVec Ideal S2048x32 .f32 :=
  Host.divf (Host.exp (subf (Host.dotGeneral dot_S2048x1024_S1024x32_S2048x32_1_0_0_1_n_n none X RW) (broadcastInDim S2048x32 ![0, 1]
    bcast_S2048x1_S2048x32_0_1 (broadcastInDim S2048x1 ![0] bcast_S2048_S2048x1_0 (Host.reduce FloatOps.maximumf (Host.dotGeneral
    dot_S2048x1024_S1024x32_S2048x32_1_0_0_1_n_n none X RW) (constant S_ .f32 0xFF800000#32) reducesTo_S2048x32_S2048_d1 h_S_)))))
    (broadcastInDim S2048x32 ![0, 1] bcast_S2048x1_S2048x32_0_1 (broadcastInDim S2048x1 ![0] bcast_S2048_S2048x1_0 (Host.reduceAdd (Host.exp
    (subf (Host.dotGeneral dot_S2048x1024_S1024x32_S2048x32_1_0_0_1_n_n none X RW) (broadcastInDim S2048x32 ![0, 1]
    bcast_S2048x1_S2048x32_0_1 (broadcastInDim S2048x1 ![0] bcast_S2048_S2048x1_0 (Host.reduce FloatOps.maximumf (Host.dotGeneral
    dot_S2048x1024_S1024x32_S2048x32_1_0_0_1_n_n none X RW) (constant S_ .f32 0xFF800000#32) reducesTo_S2048x32_S2048_d1 h_S_))))) (constant
    S_ .f32 0x00000000#32) reducesTo_S2048x32_S2048_d1 h_S_)))

/-- The reference's result. -/
def refOut (X : FVec Ideal S2048x1024 .f32) (RW : FVec Ideal S1024x32 .f32) (RI : IVec S2048x1 32) (W : FVec Ideal S32x1024x1024 .f32)
    (SW : FVec Ideal S1024x1024 .f32) : FVec Ideal S2048x1024 .f32 :=
  addf (Host.dotGeneral dot_S2048x1024_S1024x1024_S2048x1024_1_0_0_1_n_n none X SW) (Host.reduceAdd (select (broadcastInDim S2048x32x1024
    ![0, 1, 2] bcast_S2048x32x1_S2048x32x1024_0_1_2 (broadcastInDim S2048x32x1 ![0, 1] bcast_S2048x32_S2048x32x1_0_1 (cmpi .eq
    (broadcastInDim S2048x32 ![0, 1] bcast_S2048x1_S2048x32_0_1 RI) (broadcastInDim S2048x32 ![0, 1] bcast_S1x32_S2048x32_0_1
    (broadcastInDim S1x32 ![1] bcast_S32_S1x32_1 (iotaInDim S32 32 0)))))) (mulf (broadcastInDim S2048x32x1024 ![0, 1, 2]
    bcast_S2048x32x1_S2048x32x1024_0_1_2 (broadcastInDim S2048x32x1 ![0, 1] bcast_S2048x32_S2048x32x1_0_1 (refProb X RW))) (Host.dotGeneral
    dot_S2048x1024_S32x1024x1024_S2048x32x1024_1_1_0_02_n_n none X W)) (broadcastInDim S2048x32x1024 ![] bcast_S_S2048x32x1024 (id (constant
    S_ .f32 0x00000000#32)))) (constant S_ .f32 0x00000000#32) reducesTo_S2048x32x1024_S2048x1024_d1 h_S_)

variable (X : FVec Ideal S2048x1024 .f32) (RW : FVec Ideal S1024x32 .f32) (RI : IVec S2048x1 32) (W : FVec Ideal S32x1024x1024 .f32)
  (SW : FVec Ideal S1024x1024 .f32)

/-- The reference's result at a token and a column. -/
theorem refOut_at (t : Fin 2048) (h : Fin 1024) : refOut X RW RI W SW (ix2 t h) = (∑ k, X (ix2 t k) * SW (ix2 k h))
    + ∑ e : Fin 32, Scalar.select (IntOp.cmpi .eq (RI (ix2 t 0)) (BitVec.ofNat 32 e.val)) (refProb X RW (ix2 t e) * ∑ k, X (ix2 t k) * W (ix3 e k h)) 0 := by
  pointwise [refOut, id]

end

section
open Cert.KernelIdeal Cert.KernelIdeal.Gen

/-- The kernel's probability of a token: the reference's, of the expert it chose. -/
theorem prob_at (X : Vec Ideal S2048x1024 .f32) (RW : Vec Ideal S1024x32 .f32) (RI : Vec Ideal S2048x1 .i32) (t : Fin 2048) :
    prob X RW RI (ix2 t 0) = ∑ e : Fin 32, Scalar.select (IntOp.cmpi .eq (BitVec.ofNat 32 e.val) (RI (ix2 t 0))) (refProb X RW (ix2 t e)) 0 := by
  pointwise [prob, k0_pay3, k0_pay1, k0_pay2, refProb]
end

end Cert.Moe

end
-- ==== Proof.Equal.lean ====
/-
# The kernel's value is the reference's

When no expert is chosen by more than 128 tokens and no device's experts by more than 192 tokens of another device's block,
each device's result is its block of the reference's (`out_eq`). A token that chose one of the device's own experts takes its row
from the device's own experts, a token that chose another device's expert takes it from what that device sent, and a token
whose number names no expert takes nothing.
-/
module

public import proofs.«01_k».proof.Proof.Owners
public import proofs.«01_k».proof.Proof.Rows
public import proofs.«01_k».proof.Proof.RefValue

@[expose] public section

set_option maxRecDepth 16384

noncomputable section

namespace Cert.Moe

open Cert.KernelIdeal Cert.KernelIdeal.Gen
open Idealize.ShloMosaic

variable (c : Dev nD) (X : Vec Ideal S2048x1024 .f32) (RW : Vec Ideal S1024x32 .f32) (RI : Vec Ideal S2048x1 .i32) (SW : Vec Ideal S1024x1024 .f32)

/-- The device's own part of its result: the experts' rows of its tokens, and the shared product. -/
theorem res₀_at (EW : Vec Ideal S8x1024x1024 .f32) (r : Fin 512) (h : Fin 1024) : res₀ c X RW RI EW SW (ix2 r h)
    = (∑ s : Fin 1024, asg c RI (ix2 (tok c r) s) * rowsY c X RW RI EW (ix2 s h)) + ∑ k : Fin 1024, X (ix2 (tok c r) k) * SW (ix2 k h) := by
  pointwise [res₀, k0_pay30, blk]

/-- Choosing by whether two words are equal. -/
theorem select_eq (a b : BitVec 32) (x y : EReal) : Scalar.select (IntOp.cmpi .eq a b) x y = if a = b then x else y := by
  rw [eq_bit]
  unfold Scalar.select
  by_cases h : a = b <;> simp [h]

/-- The test of the program is that the token chose the expert. -/
theorem hits_iff (k : ℕ) (t : Fin 2048) : RI (ix2 t 0) = BitVec.ofNat 32 k ↔ hits RI k t.val := by unfold hits; rw [key_at]

/-- What the reference adds to the shared product at a token. -/
def routed (W : FVec Ideal Cert.ReferenceIdeal.S32x1024x1024 .f32) (t : Fin 2048) (h : Fin 1024) : EReal :=
  ∑ e : Fin 32, Scalar.select (IntOp.cmpi .eq (RI (ix2 t 0)) (BitVec.ofNat 32 e.val)) (refProb X RW (ix2 t e) * ∑ k : Fin 1024, X (ix2 t k) * W (ix3 e k h)) 0

variable (W : FVec Ideal Cert.ReferenceIdeal.S32x1024x1024 .f32) (t : Fin 2048) (h : Fin 1024)

/-- At a token that chose expert `E`: the expert's answer. -/
theorem routed_hit {E : Fin 32} (hE : hits RI E.val t.val) : routed X RW RI W t h = prob X RW RI (ix2 t 0) * ∑ k : Fin 1024, X (ix2 t k) * W (ix3 E k h) := by
  have hu : ∀ e : Fin 32, hits RI e.val t.val → e = E := fun e he => Fin.ext (hits_inj (by omega) (by omega) he hE)
  have hp : prob X RW RI (ix2 t 0) = refProb X RW (ix2 t E) := by
    rw [prob_at, Finset.sum_eq_single E]
    · rw [select_eq, if_pos ((hits_iff RI E.val t).2 hE).symm]
    · intro e _ hne; rw [select_eq, if_neg fun hq => hne (hu e ((hits_iff RI e.val t).1 hq.symm))]
    · intro hn; exact absurd (Finset.mem_univ _) hn
  unfold routed
  rw [hp, Finset.sum_eq_single E]
  · rw [select_eq, if_pos ((hits_iff RI E.val t).2 hE)]
  · intro e _ hne; rw [select_eq, if_neg fun hq => hne (hu e ((hits_iff RI e.val t).1 hq))]
  · intro hn; exact absurd (Finset.mem_univ _) hn

/-- At a token that chose none: nothing. -/
theorem routed_miss (hn : ∀ E : Fin 32, ¬hits RI E.val t.val) : routed X RW RI W t h = 0 :=
  Finset.sum_eq_zero fun e _ => by rw [select_eq, if_neg fun hq => hn e ((hits_iff RI e.val t).1 hq)]

/-- From a device that does not own the token nothing is taken. -/
theorem picked_none {k t : ℕ} (R : Vec Ideal S192x1024 .f32) (h : Fin 1024) (hn : ¬owned RI k t) : picked RI k t R h = 0 := dif_neg fun q => hn q.1

/-- The slot of a token of an expert that no more than 128 tokens chose. -/
theorem count_lt {E t : ℕ} (ht : t < 2048) (hE : hits RI E t) (hle : Nat.count (hits RI E) 2048 ≤ 128) : Nat.count (hits RI E) t < 128 := by
  have h1 : Nat.count (hits RI E) (t + 1) ≤ Nat.count (hits RI E) 2048 := Nat.count_monotone _ (by omega)
  rw [Nat.count_succ_eq_succ_count hE] at h1
  omega

/-- The packed row of a token of a device that no more than 192 tokens of the block chose. -/
theorem place_lt {k j r : ℕ} (hr : r < 512) (ho : owned RI k (512 * j + r))
    (hle : Nat.count (owned RI k) (j * 512 + 512) - Nat.count (owned RI k) (j * 512) ≤ 192) : place RI k (512 * j + r) < 192 := by
  have h1 : Nat.count (owned RI k) (512 * j + r + 1) ≤ Nat.count (owned RI k) (j * 512 + 512) := Nat.count_monotone _ (by omega)
  have h2 : Nat.count (owned RI k) (j * 512) ≤ Nat.count (owned RI k) (512 * j + r) := Nat.count_monotone _ (by omega)
  rw [Nat.count_succ_eq_succ_count ho] at h1
  unfold place
  rw [show 512 * ((512 * j + r) / 512) = j * 512 by omega]
  omega

variable (EW : Dev nD → Vec Ideal S8x1024x1024 .f32)

/-- The number of a device's expert among the 32. -/
abbrev expert (p : Dev nD) (e : Fin 8) : Fin 32 := ⟨8 * p.val + e.val, by have := p.isLt; change p.val < 4 at this; omega⟩

/-- What device `p` sent, at a token of block `c` that chose one of its experts: the reference's answer. -/
theorem picked_hit (hEW : ∀ (p : Dev nD) (e : Fin 8) (a b : Fin 1024), EW p (ix3 e a b) = W (ix3 (expert p e) a b))
    (h1 : ∀ E : Fin 32, Nat.count (hits RI E.val) 2048 ≤ 128) (p : Dev nD)
    (h2 : Nat.count (owned RI p.val) (c.val * 512 + 512) - Nat.count (owned RI p.val) (c.val * 512) ≤ 192)
    (r : Fin 512) (e : Fin 8) (he : hits RI (8 * p.val + e.val) (tok c r).val) :
    picked RI p.val (tok c r).val (packed p c X RW RI (EW p)) h = routed X RW RI W (tok c r) h := by
  have ho : owned RI p.val (tok c r).val := (owned_iff RI p.isLt _).2 ⟨e, he⟩
  have hp : place RI p.val (tok c r).val < 192 := place_lt RI r.isLt ho h2
  unfold picked
  rw [dif_pos ⟨ho, hp⟩, packed_row p X RW RI (EW p) c r ⟨_, hp⟩ h e he (count_lt RI (tok c r).isLt he (h1 (expert p e))) rfl,
    routed_hit X RW RI W (tok c r) h (E := expert p e) he]
  unfold answer
  exact congrArg (_ * ·) (Finset.sum_congr rfl fun k _ => by rw [hEW])

/-- The device's own experts, at a token that chose one of them. -/
theorem own_hit (hEW : ∀ (p : Dev nD) (e : Fin 8) (a b : Fin 1024), EW p (ix3 e a b) = W (ix3 (expert p e) a b))
    (h1 : ∀ E : Fin 32, Nat.count (hits RI E.val) 2048 ≤ 128) (r : Fin 512) (e : Fin 8) (he : hits RI (8 * c.val + e.val) (tok c r).val) :
    ∑ s : Fin 1024, asg c RI (ix2 (tok c r) s) * rowsY c X RW RI (EW c) (ix2 s h) = routed X RW RI W (tok c r) h := by
  rw [own_row c X RW RI (EW c) e (tok c r) h he (count_lt RI (tok c r).isLt he (h1 (expert c e))), routed_hit X RW RI W (tok c r) h (E := expert c e) he]
  unfold answer
  exact congrArg (_ * ·) (Finset.sum_congr rfl fun k _ => by rw [hEW])

/-- A device is the one or one of the three others. -/
theorem ring_cases (c p : Dev nD) : p = c ∨ p = sh 0 c ∨ p = sh 1 c ∨ p = sh 2 c := by revert c p; decide
/-- The four devices around the ring are different. -/
theorem ring_ne (c : Dev nD) : (sh 0 c).val ≠ c.val ∧ (sh 1 c).val ≠ c.val ∧ (sh 2 c).val ≠ c.val
    ∧ (sh 0 c).val ≠ (sh 1 c).val ∧ (sh 0 c).val ≠ (sh 2 c).val ∧ (sh 1 c).val ≠ (sh 2 c).val := by revert c; decide

/-- Each device's result is its block of the reference's. -/
theorem out_eq (hEW : ∀ (p : Dev nD) (e : Fin 8) (a b : Fin 1024), EW p (ix3 e a b) = W (ix3 (expert p e) a b))
    (h1 : ∀ E : Fin 32, Nat.count (hits RI E.val) 2048 ≤ 128)
    (h2 : ∀ {j k : Fin 4}, j ≠ k → Nat.count (owned RI k.val) (j.val * 512 + 512) - Nat.count (owned RI k.val) (j.val * 512) ≤ 192)
    (r : Fin 512) : res c X RW RI (EW c) SW (fun j => packed (sh j c) (sh (rev j) (sh j c)) X RW RI (EW (sh j c))) (ix2 r h)
      = refOut X RW RI W SW (ix2 (tok c r) h) := by
  rw [res_at, res₂_at, res₁_at, res₀_at, refOut_at]
  change _ = _ + routed X RW RI W (tok c r) h
  rw [rev_sh, rev_sh, rev_sh]
  have hc : c.val < 4 := c.isLt
  have hother : ∀ p q : Dev nD, p.val ≠ q.val → owned RI p.val (tok c r).val → ¬owned RI q.val (tok c r).val := fun p q hpq ho hq => by
    have hp' : p.val < 4 := p.isLt
    have hq' : q.val < 4 := q.isLt
    exact hpq (owned_inj (by omega) (by omega) ho hq)
  obtain ⟨n0, n1, n2, n01, n02, n12⟩ := ring_ne c
  by_cases hall : ∃ p : Dev nD, owned RI p.val (tok c r).val
  · obtain ⟨p, ho⟩ := hall
    obtain ⟨e, he⟩ := (owned_iff RI p.isLt _).1 ho
    rcases ring_cases c p with rfl | rfl | rfl | rfl
    · rw [own_hit p X RW RI W h EW hEW h1 r e he, picked_none RI _ h (hother _ _ n0.symm ho), picked_none RI _ h (hother _ _ n1.symm ho),
        picked_none RI _ h (hother _ _ n2.symm ho), add_zero, add_zero, add_zero, add_comm]
    · rw [own_none c X RW RI (EW c) (tok c r) h (hother _ _ n0 ho), picked_hit c X RW RI W h EW hEW h1 (sh 0 c) (h2 (sh_ne 0 c).symm) r e he,
        picked_none RI _ h (hother _ _ n01 ho), picked_none RI _ h (hother _ _ n02 ho), zero_add, add_zero, add_zero]
    · rw [own_none c X RW RI (EW c) (tok c r) h (hother _ _ n1 ho), picked_hit c X RW RI W h EW hEW h1 (sh 1 c) (h2 (sh_ne 1 c).symm) r e he,
        picked_none RI _ h (hother _ _ n01.symm ho), picked_none RI _ h (hother _ _ n12 ho), zero_add, add_zero, add_zero]
    · rw [own_none c X RW RI (EW c) (tok c r) h (hother _ _ n2 ho), picked_hit c X RW RI W h EW hEW h1 (sh 2 c) (h2 (sh_ne 2 c).symm) r e he,
        picked_none RI _ h (hother _ _ n02.symm ho), picked_none RI _ h (hother _ _ n12.symm ho), zero_add, add_zero, add_zero]
  · have hno : ∀ p : Dev nD, ¬owned RI p.val (tok c r).val := fun p ho => hall ⟨p, ho⟩
    rw [own_none c X RW RI (EW c) (tok c r) h (hno c), picked_none RI _ h (hno _), picked_none RI _ h (hno _), picked_none RI _ h (hno _),
      routed_miss X RW RI W (tok c r) h fun E hE => hno ⟨E.val / 8, by change _ < 4; omega⟩ ((owned_iff RI (by show E.val / 8 < 4; omega) _).2
        ⟨⟨E.val % 8, by omega⟩, by
          show hits RI (8 * (E.val / 8) + E.val % 8) (tok c r).val
          rw [Nat.div_add_mod]
          exact hE⟩),
      add_zero, add_zero, add_zero, zero_add, add_zero]

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.Run
public import proofs.«01_k».proof.Proof.Fits
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The kernel's body table and the idealized program's are the same text, so the same table. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact rfl
  | ⟨n + 1, h⟩, _ => exact absurd h (Nat.not_lt.2 (Nat.le_add_left _ _))

theorem tables_eq : Cert.Kernel.defs (F := Bits) = Cert.KernelIdeal.defs (F := Bits) := by
  unfold Cert.Kernel.defs Cert.KernelIdeal.defs
  exact congrArg (Pipeline.defs _) bodies_eq

/-- The kernel's program: the run at the bit-exact floats. -/
theorem frame_kernel : Cert.quiescent_Kernel := fun m ρ _ =>
  (congrArg (fun D => θ_run D (onTc (τ := Cert.Kernel.τ) (Cert.Kernel.main (F := Bits))) ⟨m, fun _ => 0, ρ⟩ _) tables_eq).mpr
    ((θ_run Cert.KernelIdeal.defs _ _).mono (fun _ h => ⟨fun c => (h.1 c).2, h.2⟩) (Cert.Moe.run_main (F := Bits) m ρ))

theorem frame_ideal : Cert.quiescent_KernelIdeal := fun m ρ _ =>
  (θ_run Cert.KernelIdeal.defs _ _).mono (fun _ h => ⟨fun c => (h.1 c).2, h.2⟩) (Cert.Moe.run_main (F := Ideal) m ρ)

theorem frame_ideal_pre : Cert.quiescent_KernelIdeal_pre_fits_KernelIdeal := fun m ρ _ =>
  (θ_run Cert.KernelIdeal.defs _ _).mono (fun _ h => ⟨fun c => (h.1 c).2, h.2⟩) (Cert.Moe.run_main (F := Ideal) m ρ)

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre : Cert.quiescent_ReferenceIdeal_pre_fits_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The part of the experts' weights that a device holds, entry by entry. -/
theorem weights_at (p : Dev Cert.KernelIdeal.nD) (W : FVec Ideal Cert.ReferenceIdeal.S32x1024x1024 .f32) (e : Fin 8) (a b : Fin 1024) :
    Layout.block ⟨3, ![8, 1024, 1024]⟩ ⟨3, ![32, 1024, 1024]⟩ 0 4 p W (by decide) (ix3 e a b) = W (ix3 (Cert.Moe.expert p e) a b) := by
  rw [Layout.block_apply]
  refine congrArg W (funext fun x => Fin.ext ?_)
  rw [Layout.Tiles.idx_val]
  match x with
  | ⟨0, _⟩ => exact congrArg (· + e.val) (Nat.mul_comm p.val 8)
  | ⟨1, _⟩ => rfl
  | ⟨2, _⟩ => rfl

/-- A device's block of the result, entry by entry. -/
theorem result_at (c : Dev Cert.KernelIdeal.nD) (v : FVec Ideal Cert.ReferenceIdeal.S2048x1024 .f32) (r : Fin 512) (h : Fin 1024) :
    Layout.block ⟨2, ![512, 1024]⟩ ⟨2, ![2048, 1024]⟩ 0 4 c v (by decide) (ix2 r h) = v (ix2 (Cert.Moe.tok c r) h) := by
  rw [Layout.block_apply]
  refine congrArg v (funext fun x => Fin.ext ?_)
  rw [Layout.Tiles.idx_val]
  match x with
  | ⟨0, _⟩ => exact congrArg (· + r.val) (Nat.mul_comm c.val 512)
  | ⟨1, _⟩ => rfl

open Cert.Moe in
/-- On memories that agree, entry by entry. -/
theorem out_at (m : (ℓ : Loc Cert.KernelIdeal.nD Cert.KernelIdeal.τ Cert.KernelIdeal.sig) → Buf (Elt Ideal) ℓ) (c : Dev Cert.KernelIdeal.nD)
    (X : FVec Ideal Cert.ReferenceIdeal.S2048x1024 .f32) (RW : FVec Ideal Cert.ReferenceIdeal.S1024x32 .f32) (RI : IVec Cert.ReferenceIdeal.S2048x1 32)
    (W : FVec Ideal Cert.ReferenceIdeal.S32x1024x1024 .f32) (SW : FVec Ideal Cert.ReferenceIdeal.S1024x1024 .f32)
    (hX : ∀ p, inX m p = X) (hRW : ∀ p, inRW m p = RW) (hRI : ∀ p, inRI m p = RI)
    (hEW : ∀ p, inEW m p = Layout.block ⟨3, ![8, 1024, 1024]⟩ ⟨3, ![32, 1024, 1024]⟩ 0 4 p W (by decide)) (hSW : ∀ p, inSW m p = SW)
    (hfit : Cert.Pre_fits_KernelIdeal.fn (F := Ideal) (inX m c) (inRW m c) (inRI m c) (inEW m c) (inSW m c) = fun _ => 1#1) (r : Fin 512) (h : Fin 1024) :
    outC m c (ix2 r h) = refOut X RW RI W SW (ix2 (tok c r) h) := by
  rw [hRI c] at hfit
  unfold outC sent
  simp only [hX, hRW, hRI, hSW]
  exact out_eq c X RW RI SW W h (inEW m) (fun p e a b => (congrFun (hEW p) (ix3 e a b)).trans (weights_at p W e a b)) (expert_le hfit)
    (fun hjk => block_le hfit hjk) r

/-- The kernel's result is the reference's: each device ends with its block of it. -/
theorem algebraic : Cert.algebraic_KernelIdeal_ReferenceIdeal_pre_fits_KernelIdeal := by
  intro m g m' g' hpre hargs
  refine ⟨_, (θ_run Cert.KernelIdeal.defs _ _).mono (fun r hr c => ⟨(hr.1 c).1.trans (funext fun i => ?_), (hr.1 c).2⟩)
      (Cert.Moe.run_main (F := Ideal) m g),
    (θ_run Cert.ReferenceIdeal.defs _ _).mono (fun r hr => hr 0) (Cert.ReferenceIdeal.Value.run (F := Ideal) m' g')⟩
  obtain ⟨a, b, rfl⟩ : ∃ (a : Fin 512) (b : Fin 1024), i = ix2 a b :=
    ⟨i 0, i 1, funext fun x => by match x with | ⟨0, _⟩ => rfl | ⟨1, _⟩ => rfl⟩
  exact (out_at m c _ _ _ _ _ (fun p => (hargs p).1) (fun p => (hargs p).2.1) (fun p => (hargs p).2.2.1) (fun p => (hargs p).2.2.2.1)
    (fun p => (hargs p).2.2.2.2) (hpre c) a b).trans (result_at c _ a b).symm

theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts,
  frame_kernel, frame_ideal, frame_ideal_pre, frame_ref, frame_ref_pre, trivial, algebraic⟩

end Cert.Proof

end
